-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite [hPre_finite : Cert.Pre_finite.Facts] (m : (ℓ : Loc Cert.AttIdeal.nD Cert.AttIdeal.τ Cert.AttIdeal.sig) → Buf (Elt Ideal) ℓ) : Prop :=
  ∀ c : Dev Cert.AttIdeal.nD,
    (Cert.Pre_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1))).1 = (fun _ => 1#1)
    ∧ (Cert.Pre_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1))).2 = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite [hPre_finite : Cert.Pre_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1))).1 = (fun _ => 1#1)
    ∧ (Cert.Pre_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1))).2 = (fun _ => 1#1)

def Pre_Up [hPre_tables_up : Cert.Pre_tables_up.Facts] (m : (ℓ : Loc Cert.Up.nD Cert.Up.τ Cert.Up.sig) → Buf (Elt Bits) ℓ) : Prop :=
  ∀ c : Dev Cert.Up.nD,
    (Cert.Pre_tables_up.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_tables_up : Cert.Pre_tables_up.Facts] (m : (ℓ : Loc Cert.UpIdeal.nD Cert.UpIdeal.τ Cert.UpIdeal.sig) → Buf (Elt Ideal) ℓ) : Prop :=
  ∀ c : Dev Cert.UpIdeal.nD,
    (Cert.Pre_tables_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_tables_up [hPre_tables_up : Cert.Pre_tables_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_tables_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttIdeal_pre_finite [hAttIdeal : Cert.AttIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1))
      ∧ r.2.sem = fun _ => 0)

def quiescent_AttRefIdeal_pre_finite [hAttRefIdeal : Cert.AttRefIdeal.Facts] [hPre_finite : Cert.Pre_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1))
      ∧ r.2.sem = fun _ => 0)

def quiescent_Up [hUp : Cert.Up.Facts] [hPre_tables_up : Cert.Pre_tables_up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_tables_up : Cert.Pre_tables_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_tables_up [hUpRefIdeal : Cert.UpRefIdeal.Facts] [hPre_tables_up : Cert.Pre_tables_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_tables_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v5_0)) (v1 : (c : Dev Cert.ProjIdeal.nD) → Buf (Elt Ideal) ((c.tc : Thread Cert.ProjIdeal.nD Cert.ProjIdeal.τ).loc Cert.ProjIdeal.main_v5_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5_0) = v0 c
          ∧ r.2.mem ((c.tc : Thread Cert.ProjIdeal.nD Cert.ProjIdeal.τ).loc Cert.ProjIdeal.main_v5_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v18) = v0 c
          ∧ r.2.mem ((c.tc : Thread Cert.ProjRefIdeal.nD Cert.ProjRefIdeal.τ).loc Cert.ProjRefIdeal.main_v19) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Att_AttIdeal : Prop :=
  IdealRules.named_const.Statement Cert.AttIdeal.κ "neg" .f32 0xF149F2CA#32 ⊥

def algebraic_AttIdeal_AttRefIdeal_pre_finite [hAttIdeal : Cert.AttIdeal.Facts] [hAttRefIdeal : Cert.AttRefIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)) →
    ∃ (v0 : (c : Dev Cert.AttIdeal.nD) → Buf (Elt Ideal) ((c.tc : Thread Cert.AttIdeal.nD Cert.AttIdeal.τ).loc Cert.AttIdeal.main_v34)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v34) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v57) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1))

def preserves_Up_UpIdeal : Prop :=
  True

def algebraic_UpIdeal_UpRefIdeal [hUpIdeal : Cert.UpIdeal.Facts] [hUpRefIdeal : Cert.UpRefIdeal.Facts] [hPre_tables_up : Cert.Pre_tables_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v52) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def Claim : Prop :=
  ∃ (hProj : Cert.Proj.Facts) (hProjIdeal : Cert.ProjIdeal.Facts) (hProjRefIdeal : Cert.ProjRefIdeal.Facts) (hAtt : Cert.Att.Facts) (hAttIdeal : Cert.AttIdeal.Facts) (hAttRefIdeal : Cert.AttRefIdeal.Facts) (hUp : Cert.Up.Facts) (hUpIdeal : Cert.UpIdeal.Facts) (hUpRefIdeal : Cert.UpRefIdeal.Facts) (hPre_finite : Cert.Pre_finite.Facts) (hPre_tables_up : Cert.Pre_tables_up.Facts),
    quiescent_Proj (hProj := hProj)
    ∧ quiescent_ProjIdeal (hProjIdeal := hProjIdeal)
    ∧ quiescent_ProjRefIdeal (hProjRefIdeal := hProjRefIdeal)
    ∧ quiescent_Att (hAtt := hAtt)
    ∧ quiescent_AttIdeal (hAttIdeal := hAttIdeal)
    ∧ quiescent_AttIdeal_pre_finite (hAttIdeal := hAttIdeal) (hPre_finite := hPre_finite)
    ∧ quiescent_AttRefIdeal (hAttRefIdeal := hAttRefIdeal)
    ∧ quiescent_AttRefIdeal_pre_finite (hAttRefIdeal := hAttRefIdeal) (hPre_finite := hPre_finite)
    ∧ quiescent_Up (hUp := hUp) (hPre_tables_up := hPre_tables_up)
    ∧ quiescent_UpIdeal (hUpIdeal := hUpIdeal) (hPre_tables_up := hPre_tables_up)
    ∧ quiescent_UpRefIdeal (hUpRefIdeal := hUpRefIdeal)
    ∧ quiescent_UpRefIdeal_pre_tables_up (hUpRefIdeal := hUpRefIdeal) (hPre_tables_up := hPre_tables_up)
    ∧ preserves_Proj_ProjIdeal
    ∧ algebraic_ProjIdeal_ProjRefIdeal (hProjIdeal := hProjIdeal) (hProjRefIdeal := hProjRefIdeal)
    ∧ preserves_Att_AttIdeal
    ∧ algebraic_AttIdeal_AttRefIdeal_pre_finite (hAttIdeal := hAttIdeal) (hAttRefIdeal := hAttRefIdeal) (hPre_finite := hPre_finite)
    ∧ preserves_Up_UpIdeal
    ∧ algebraic_UpIdeal_UpRefIdeal (hUpIdeal := hUpIdeal) (hUpRefIdeal := hUpRefIdeal) (hPre_tables_up := hPre_tables_up)
-- ==== Pre_finite.lean ====
abbrev S16x2048x3072 : Shape := ⟨3, ![16, 2048, 3072]⟩
abbrev S1x16x257 : Shape := ⟨3, ![1, 16, 257]⟩
abbrev S16x2048x2048 : Shape := ⟨3, ![16, 2048, 2048]⟩
abbrev S_ : Shape := ⟨0, ![]⟩

class Facts : Prop where
  slices_S16x2048x3072_S16x2048x2048_0_0_0 : S16x2048x3072.Slices ![0, 0, 0] S16x2048x2048
  bitsLt_bf16_f32 : FTy.bits .bf16 < FTy.bits .f32
  bcast_S_S16x2048x2048 : S_.BroadcastsInDim S16x2048x2048 (![] : Fin 0 → Fin S16x2048x2048.rank)
  bcast_S_S1x16x257 : S_.BroadcastsInDim S1x16x257 (![] : Fin 0 → Fin S1x16x257.rank)

variable [Facts]

def fn {F : FTy → Type} [FloatOps F] (main_arg0 : FVec F S16x2048x3072 .bf16) (main_arg1 : FVec F S1x16x257 .f32) : IVec S16x2048x2048 1 × IVec S1x16x257 1 :=
  let main_v0 : FVec F S16x2048x2048 .bf16 := (extractStridedSlice S16x2048x2048 ![0, 0, 0] · slices_S16x2048x3072_S16x2048x2048_0_0_0) main_arg0
  let main_v1 : FVec F S16x2048x2048 .f32 := (extf .f32 · bitsLt_bf16_f32) main_v0
  let main_v2 : FVec F S16x2048x2048 .f32 := Host.absf main_v1
  let main_cst : FVec F S_ .f32 := constant S_ .f32 0x7F800000#32
  let main_v3 : FVec F S16x2048x2048 .f32 := broadcastInDim S16x2048x2048 ![] bcast_S_S16x2048x2048 main_cst
  let main_v4 : IVec S16x2048x2048 1 := cmpf .olt main_v2 main_v3
  let main_v5 : FVec F S1x16x257 .f32 := Host.absf main_arg1
  let main_cst_0 : FVec F S_ .f32 := constant S_ .f32 0x7F800000#32
  let main_v6 : FVec F S1x16x257 .f32 := broadcastInDim S1x16x257 ![] bcast_S_S1x16x257 main_cst_0
  let main_v7 : IVec S1x16x257 1 := cmpf .olt main_v5 main_v6
  (main_v4, main_v7)
-- ==== Pre_tables_up.lean ====
abbrev S287 : Shape := ⟨1, ![287]⟩
abbrev S1 : Shape := ⟨1, ![1]⟩
abbrev S146944x1024 : Shape := ⟨2, ![146944, 1024]⟩
abbrev S1x32x2048x4096 : Shape := ⟨4, ![1, 32, 2048, 4096]⟩
abbrev S1x32x4096 : Shape := ⟨3, ![1, 32, 4096]⟩
abbrev S_ : Shape := ⟨0, ![]⟩

class Facts : Prop where
  bcast_S_S287 : S_.BroadcastsInDim S287 (![] : Fin 0 → Fin S287.rank)
  reducesTo_S287_S_d0 : S287.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S287 32) (main_arg1 : IVec S1 32) (main_arg2 : IVec S146944x1024 32) (main_arg3 : FVec F S1x32x2048x4096 .f32) (main_arg4 : FVec F S1x32x4096 .f32) : IVec S_ 1 :=
  let main_c : IVec S_ 32 := constantI S_ 32 0#32
  let main_v0 : IVec S287 32 := broadcastInDim S287 ![] bcast_S_S287 main_c
  let main_v1 : IVec S287 1 := cmpi .sge main_arg0 main_v0
  let main_c_0 : IVec S_ 32 := constantI S_ 32 32#32
  let main_v2 : IVec S287 32 := broadcastInDim S287 ![] bcast_S_S287 main_c_0
  let main_v3 : IVec S287 1 := cmpi .slt main_arg0 main_v2
  let main_v4 : IVec S287 1 := andi main_v1 main_v3
  let main_c_1 : IVec S_ 1 := constantI S_ 1 1#1
  let main_v5 : IVec S_ 1 := (fun x v => Host.reduce IntOp.andi x v reducesTo_S287_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 287#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Proj.lean ====
abbrev S16x2048x2048 : Shape := ⟨3, ![16, 2048, 2048]⟩
abbrev S1x2048 : Shape := ⟨2, ![1, 2048]⟩
abbrev S1x2048x5120 : Shape := ⟨3, ![1, 2048, 5120]⟩
abbrev S32768x2048 : Shape := ⟨2, ![32768, 2048]⟩
abbrev S2048 : Shape := ⟨1, ![2048]⟩
abbrev S2048x5120 : Shape := ⟨2, ![2048, 5120]⟩
abbrev S32768x3072 : Shape := ⟨2, ![32768, 3072]⟩
abbrev S256x2048 : Shape := ⟨2, ![256, 2048]⟩
abbrev S256x3072 : Shape := ⟨2, ![256, 3072]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩

abbrev nBuf : Space → Nat
  | .hbm => 10
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x5120, .f32⟩
  | .hbm, ⟨3, _⟩ => ⟨S32768x2048, .f32⟩
  | .hbm, ⟨4, _⟩ => ⟨S2048, .f32⟩
  | .hbm, ⟨5, _⟩ => ⟨S2048x5120, .f32⟩
  | .hbm, ⟨6, _⟩ => ⟨S2048x5120, .bf16⟩
  | .hbm, ⟨7, _⟩ => ⟨S1x2048, .f32⟩
  | .hbm, ⟨8, _⟩ => ⟨S32768x3072, .bf16⟩
  | .hbm, ⟨9, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x5120, .bf16⟩
  | .local _ .vmem, ⟨4, _⟩ => ⟨S256x3072, .bf16⟩
  | .local _ .vmem, ⟨5, _⟩ => ⟨S256x3072, .bf16⟩
  | .local _ .vmem, ⟨6, _⟩ => ⟨S256x2048, .f32⟩
  | .local _ .vmem, ⟨7, _⟩ => ⟨S256x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S16x2048x2048 : Shape := ⟨3, ![16, 2048, 2048]⟩
abbrev S1x2048 : Shape := ⟨2, ![1, 2048]⟩
abbrev S1x2048x5120 : Shape := ⟨3, ![1, 2048, 5120]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S2048 : Shape := ⟨1, ![2048]⟩
abbrev S2048x5120 : Shape := ⟨2, ![2048, 5120]⟩
abbrev S32768x5120 : Shape := ⟨2, ![32768, 5120]⟩
abbrev S32768x3072 : Shape := ⟨2, ![32768, 3072]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x5120, .f32⟩
  | .hbm, ⟨3, _⟩ => ⟨S32768x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S2048x5120, .f32⟩
  | .hbm, ⟨22, _⟩ => ⟨S32768x5120, .f32⟩
  | .hbm, ⟨23, _⟩ => ⟨S32768x3072, .f32⟩
  | .hbm, ⟨24, _⟩ => ⟨S32768x3072, .bf16⟩
  | .hbm, ⟨25, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Att.lean ====
abbrev S16x2048x3072 : Shape := ⟨3, ![16, 2048, 3072]⟩
abbrev S1x16x257 : Shape := ⟨3, ![1, 16, 257]⟩
abbrev S16x257 : Shape := ⟨2, ![16, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S256x768x1 : Shape := ⟨3, ![256, 768, 1]⟩
abbrev S16x256x768 : Shape := ⟨3, ![16, 256, 768]⟩
abbrev S1x256x768 : Shape := ⟨3, ![1, 256, 768]⟩
abbrev S16x2048x1024 : Shape := ⟨3, ![16, 2048, 1024]⟩
abbrev S1x2048x128 : Shape := ⟨3, ![1, 2048, 128]⟩
abbrev S2x256x768 : Shape := ⟨3, ![2, 256, 768]⟩
abbrev S2560x128 : Shape := ⟨2, ![2560, 128]⟩
abbrev S512x128 : Shape := ⟨2, ![512, 128]⟩
abbrev S2048x128 : Shape := ⟨2, ![2048, 128]⟩
abbrev S1x256x128 : Shape := ⟨3, ![1, 256, 128]⟩
abbrev S256x128 : Shape := ⟨2, ![256, 128]⟩
abbrev S768x128 : Shape := ⟨2, ![768, 128]⟩
abbrev S256x64 : Shape := ⟨2, ![256, 64]⟩
abbrev S768x64 : Shape := ⟨2, ![768, 64]⟩

abbrev nBuf : Space → Nat
  | .hbm => 89
  | .vmem => 12
  | .smem => 0
  | _ => 0

abbrev bufTy : (tb : Table) → Fin (tcTables nBuf tb) → BufTy
  | .hbm, ⟨0, _⟩ => ⟨S16x2048x3072, .bf16⟩
  | .hbm, ⟨1, _⟩ => ⟨S1x16x257, .f32⟩
  | .hbm, ⟨2, _⟩ => ⟨S16x257, .f32⟩
  | .hbm, ⟨3, _⟩ => ⟨S256, .i32⟩
  | .hbm, ⟨4, _⟩ => ⟨S256x1, .i32⟩
  | .hbm, ⟨5, _⟩ => ⟨S768, .i32⟩
  | .hbm, ⟨6, _⟩ => ⟨S1x768, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x768, .i32⟩
  | .hbm, ⟨11, _⟩ => ⟨S256x768, .i32⟩
  | .hbm, ⟨12, _⟩ => ⟨S256x768, .i32⟩
  | .hbm, ⟨13, _⟩ => ⟨S_, .i32⟩
  | .hbm, ⟨14, _⟩ => ⟨S_, .i32⟩
  | .hbm, ⟨15, _⟩ => ⟨S256x1, .i32⟩
  | .hbm, ⟨16, _⟩ => ⟨S256x1, .i32⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x1, .i1⟩
  | .hbm, ⟨21, _⟩ => ⟨S256x1, .i32⟩
  | .hbm, ⟨22, _⟩ => ⟨S256x1, .i32⟩
  | .hbm, ⟨23, _⟩ => ⟨S_, .i32⟩
  | .hbm, ⟨24, _⟩ => ⟨S256x1, .i32⟩
  | .hbm, ⟨25, _⟩ => ⟨S256x1, .i1⟩
  | .hbm, ⟨26, _⟩ => ⟨S256x1, .i1⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S_, .i32⟩
  | .hbm, ⟨32, _⟩ => ⟨S256x1, .i32⟩
  | .hbm, ⟨33, _⟩ => ⟨S256x1, .i32⟩
  | .hbm, ⟨34, _⟩ => ⟨S_, .i32⟩
  | .hbm, ⟨35, _⟩ => ⟨S_, .i32⟩
  | .hbm, ⟨36, _⟩ => ⟨S1x768, .i32⟩
  | .hbm, ⟨37, _⟩ => ⟨S1x768, .i32⟩
  | .hbm, ⟨38, _⟩ => ⟨S1x768, .i32⟩
  | .hbm, ⟨39, _⟩ => ⟨S_, .i32⟩
  | .hbm, ⟨40, _⟩ => ⟨S1x768, .i32⟩
  | .hbm, ⟨41, _⟩ => ⟨S1x768, .i1⟩
  | .hbm, ⟨42, _⟩ => ⟨S1x768, .i32⟩
  | .hbm, ⟨43, _⟩ => ⟨S1x768, .i32⟩
  | .hbm, ⟨44, _⟩ => ⟨S_, .i32⟩
  | .hbm, ⟨45, _⟩ => ⟨S1x768, .i32⟩
  | .hbm, ⟨46, _⟩ => ⟨S1x768, .i1⟩
  | .hbm, ⟨47, _⟩ => ⟨S1x768, .i1⟩
  | .hbm, ⟨48, _⟩ => ⟨S_, .i32⟩
  | .hbm, ⟨49, _⟩ => ⟨S1x768, .i32⟩
  | .hbm, ⟨50, _⟩ => ⟨S1x768, .i32⟩
  | .hbm, ⟨51, _⟩ => ⟨S1x768, .i32⟩
  | .hbm, ⟨52, _⟩ => ⟨S256x768, .i32⟩
  | .hbm, ⟨53, _⟩ => ⟨S256x768, .i32⟩
  | .hbm, ⟨54, _⟩ => ⟨S256x768, .i32⟩
  | .hbm, ⟨55, _⟩ => ⟨S_, .i32⟩
  | .hbm, ⟨56, _⟩ => ⟨S256x768, .i32⟩
  | .hbm, ⟨57, _⟩ => ⟨S256x768, .i1⟩
  | .hbm, ⟨58, _⟩ => ⟨S_, .i32⟩
  | .hbm, ⟨59, _⟩ => ⟨S256x768, .i32⟩
  | .hbm, ⟨60, _⟩ => ⟨S256x768, .i1⟩
  | .hbm, ⟨61, _⟩ => ⟨S256x768, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S256x768, .i32⟩
  | .hbm, ⟨66, _⟩ => ⟨S256x768, .i32⟩
  | .hbm, ⟨67, _⟩ => ⟨S_, .i32⟩
  | .hbm, ⟨68, _⟩ => ⟨S256x768, .i32⟩
  | .hbm, ⟨69, _⟩ => ⟨S256x768, .i32⟩
  | .hbm, ⟨70, _⟩ => ⟨S_, .i32⟩
  | .hbm, ⟨71, _⟩ => ⟨S256x768, .i32⟩
  | .hbm, ⟨72, _⟩ => ⟨S256x768, .i32⟩
  | .hbm, ⟨73, _⟩ => ⟨S_, .i32⟩
  | .hbm, ⟨74, _⟩ => ⟨S256x768, .i32⟩
  | .hbm, ⟨75, _⟩ => ⟨S256x768, .i1⟩
  | .hbm, ⟨76, _⟩ => ⟨S_, .i32⟩
  | .hbm, ⟨77, _⟩ => ⟨S256x768, .i32⟩
  | .hbm, ⟨78, _⟩ => ⟨S256x768, .i32⟩
  | .hbm, ⟨79, _⟩ => ⟨S256x768, .i32⟩
  | .hbm, ⟨80, _⟩ => ⟨S256x768x1, .i32⟩
  | .hbm, ⟨81, _⟩ => ⟨S16x256x768, .f32⟩
  | .hbm, ⟨82, _⟩ => ⟨S1x256x768, .i1⟩
  | .hbm, ⟨83, _⟩ => ⟨S_, .f32⟩
  | .hbm, ⟨84, _⟩ => ⟨S_, .f32⟩
  | .hbm, ⟨85, _⟩ => ⟨S16x256x768, .i1⟩
  | .hbm, ⟨86, _⟩ => ⟨S16x256x768, .f32⟩
  | .hbm, ⟨87, _⟩ => ⟨S16x256x768, .f32⟩
  | .hbm, ⟨88, _⟩ => ⟨S16x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S2x256x768, .f32⟩
  | .local _ .vmem, ⟨7, _⟩ => ⟨S2x256x768, .f32⟩
  | .local _ .vmem, ⟨8, _⟩ => ⟨S1x2048x128, .bf16⟩
  | .local _ .vmem, ⟨9, _⟩ => ⟨S1x2048x128, .bf16⟩
  | .local _ .vmem, ⟨10, _⟩ => ⟨S2560x128, .bf16⟩
  | .local _ .vmem, ⟨11, _⟩ => ⟨S2560x128, .bf16⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_c_3 : Ref sig .tc := ⟨.hbm, 55, rfl⟩
abbrev main_v17 : Ref sig .tc := ⟨.hbm, 56, rfl⟩
abbrev main_v18 : Ref sig .tc := ⟨.hbm, 57, rfl⟩
abbrev main_c_4 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_c_5 : Ref sig .tc := ⟨.hbm, 62, rfl⟩
abbrev main_c_6 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v22 : Ref sig .tc := ⟨.hbm, 69, rfl⟩
abbrev main_c_7 : Ref sig .tc := ⟨.hbm, 70, rfl⟩
abbrev main_v23 : Ref sig .tc := ⟨.hbm, 71, rfl⟩
abbrev main_v24 : Ref sig .tc := ⟨.hbm, 72, rfl⟩
abbrev main_c_8 : Ref sig .tc := ⟨.hbm, 73, rfl⟩
abbrev main_v25 : Ref sig .tc := ⟨.hbm, 74, rfl⟩
abbrev main_v26 : Ref sig .tc := ⟨.hbm, 75, rfl⟩
abbrev main_c_9 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v33 : Ref sig .tc := ⟨.hbm, 87, rfl⟩
abbrev main_v34 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c8_i32 : BitVec 32 := 8#32
  let v19 : BitVec 32 := Scalar.addi c0_i32 c8_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v20 : BitVec 32 := Scalar.muli arg9 c256_i32
  v20
def k0_off1 (k0_t1 : Fin k0_t1_loop.trips) : Fin 3 → Nat :=
  let c0_14 : Index := 0#32
  let c0_i32 : BitVec 32 := 0#32
  let c1_i32 : BitVec 32 := 1#32
  let arg9 : BitVec 32 := Scf.iv c0_i32 c1_i32 k0_t1
  let c256_i32 : BitVec 32 := 256#32
  let v20 : BitVec 32 := Scalar.muli arg9 c256_i32
  let v21 : BitVec 32 := v20
  let v22 : Index := Scalar.indexCast v21
  let c0_15 : Index := 0#32
  ![0, v22.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v20 : BitVec 32 := Scalar.muli arg9 c256_i32
  let v21 : BitVec 32 := v20
  let v25 : Index := Scalar.indexCast v21
  let c0_16 : Index := 0#32
  ![v25.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttIdeal.lean ====
variable {F : FTy → Type} [FloatOps F] [Named F]
def κ : String → Option EReal := fun
  | "neg" => some ⊥
  | _ => none
-- ==== AttRefIdeal.lean ====
abbrev S16x2048x3072 : Shape := ⟨3, ![16, 2048, 3072]⟩
abbrev S1x16x257 : Shape := ⟨3, ![1, 16, 257]⟩
abbrev S16x2048x1024 : Shape := ⟨3, ![16, 2048, 1024]⟩
abbrev S16x2048x16x64 : Shape := ⟨4, ![16, 2048, 16, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x257 : Shape := ⟨2, ![16, 257]⟩
abbrev S_ : Shape := ⟨0, ![]⟩
abbrev S2048x2048x1 : Shape := ⟨3, ![2048, 2048, 1]⟩
abbrev S16x2048x2048 : Shape := ⟨3, ![16, 2048, 2048]⟩
abbrev S16x16x2048x2048 : Shape := ⟨4, ![16, 16, 2048, 2048]⟩
abbrev S1x16x2048x2048 : Shape := ⟨4, ![1, 16, 2048, 2048]⟩
abbrev S16x16x2048 : Shape := ⟨3, ![16, 16, 2048]⟩
abbrev S16x16x2048x1 : Shape := ⟨4, ![16, 16, 2048, 1]⟩
abbrev S16x16x64x2048 : Shape := ⟨4, ![16, 16, 64, 2048]⟩

abbrev nBuf : Space → Nat
  | .hbm => 114
  | .vmem => 0
  | .smem => 0
  | _ => 0

abbrev bufTy : (tb : Table) → Fin (tcTables nBuf tb) → BufTy
  | .hbm, ⟨0, _⟩ => ⟨S16x2048x3072, .bf16⟩
  | .hbm, ⟨1, _⟩ => ⟨S1x16x257, .f32⟩
  | .hbm, ⟨2, _⟩ => ⟨S16x2048x3072, .f32⟩
  | .hbm, ⟨3, _⟩ => ⟨S16x2048x1024, .f32⟩
  | .hbm, ⟨4, _⟩ => ⟨S16x2048x1024, .f32⟩
  | .hbm, ⟨5, _⟩ => ⟨S16x2048x1024, .f32⟩
  | .hbm, ⟨6, _⟩ => ⟨S16x2048x16x64, .f32⟩
  | .hbm, ⟨7, _⟩ => ⟨S16x2048x16x64, .f32⟩
  | .hbm, ⟨8, _⟩ => ⟨S16x2048x16x64, .f32⟩
  | .hbm, ⟨9, _⟩ => ⟨S2048, .i32⟩
  | .hbm, ⟨10, _⟩ => ⟨S2048x1, .i32⟩
  | .hbm, ⟨11, _⟩ => ⟨S1x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S16x257, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i1⟩
  | .hbm, ⟨30, _⟩ => ⟨S_, .i32⟩
  | .hbm, ⟨31, _⟩ => ⟨S2048x2048, .i32⟩
  | .hbm, ⟨32, _⟩ => ⟨S2048x2048, .i32⟩
  | .hbm, ⟨33, _⟩ => ⟨S2048x2048, .i32⟩
  | .hbm, ⟨34, _⟩ => ⟨S2048x2048x1, .i32⟩
  | .hbm, ⟨35, _⟩ => ⟨S16x2048x2048, .f32⟩
  | .hbm, ⟨36, _⟩ => ⟨S2048x1, .i32⟩
  | .hbm, ⟨37, _⟩ => ⟨S_, .i32⟩
  | .hbm, ⟨38, _⟩ => ⟨S_, .i32⟩
  | .hbm, ⟨39, _⟩ => ⟨S2048x1, .i32⟩
  | .hbm, ⟨40, _⟩ => ⟨S2048x1, .i32⟩
  | .hbm, ⟨41, _⟩ => ⟨S2048x1, .i32⟩
  | .hbm, ⟨42, _⟩ => ⟨S_, .i32⟩
  | .hbm, ⟨43, _⟩ => ⟨S2048x1, .i32⟩
  | .hbm, ⟨44, _⟩ => ⟨S2048x1, .i1⟩
  | .hbm, ⟨45, _⟩ => ⟨S2048x1, .i32⟩
  | .hbm, ⟨46, _⟩ => ⟨S2048x1, .i32⟩
  | .hbm, ⟨47, _⟩ => ⟨S_, .i32⟩
  | .hbm, ⟨48, _⟩ => ⟨S2048x1, .i32⟩
  | .hbm, ⟨49, _⟩ => ⟨S2048x1, .i1⟩
  | .hbm, ⟨50, _⟩ => ⟨S2048x1, .i1⟩
  | .hbm, ⟨51, _⟩ => ⟨S_, .i32⟩
  | .hbm, ⟨52, _⟩ => ⟨S2048x1, .i32⟩
  | .hbm, ⟨53, _⟩ => ⟨S2048x1, .i32⟩
  | .hbm, ⟨54, _⟩ => ⟨S2048x1, .i32⟩
  | .hbm, ⟨55, _⟩ => ⟨S1x2048, .i32⟩
  | .hbm, ⟨56, _⟩ => ⟨S_, .i32⟩
  | .hbm, ⟨57, _⟩ => ⟨S_, .i32⟩
  | .hbm, ⟨58, _⟩ => ⟨S1x2048, .i32⟩
  | .hbm, ⟨59, _⟩ => ⟨S1x2048, .i32⟩
  | .hbm, ⟨60, _⟩ => ⟨S1x2048, .i32⟩
  | .hbm, ⟨61, _⟩ => ⟨S_, .i32⟩
  | .hbm, ⟨62, _⟩ => ⟨S1x2048, .i32⟩
  | .hbm, ⟨63, _⟩ => ⟨S1x2048, .i1⟩
  | .hbm, ⟨64, _⟩ => ⟨S1x2048, .i32⟩
  | .hbm, ⟨65, _⟩ => ⟨S1x2048, .i32⟩
  | .hbm, ⟨66, _⟩ => ⟨S_, .i32⟩
  | .hbm, ⟨67, _⟩ => ⟨S1x2048, .i32⟩
  | .hbm, ⟨68, _⟩ => ⟨S1x2048, .i1⟩
  | .hbm, ⟨69, _⟩ => ⟨S1x2048, .i1⟩
  | .hbm, ⟨70, _⟩ => ⟨S_, .i32⟩
  | .hbm, ⟨71, _⟩ => ⟨S1x2048, .i32⟩
  | .hbm, ⟨72, _⟩ => ⟨S1x2048, .i32⟩
  | .hbm, ⟨73, _⟩ => ⟨S1x2048, .i32⟩
  | .hbm, ⟨74, _⟩ => ⟨S2048x2048, .i32⟩
  | .hbm, ⟨75, _⟩ => ⟨S2048x2048, .i32⟩
  | .hbm, ⟨76, _⟩ => ⟨S2048x2048, .i32⟩
  | .hbm, ⟨77, _⟩ => ⟨S_, .i32⟩
  | .hbm, ⟨78, _⟩ => ⟨S2048x2048, .i32⟩
  | .hbm, ⟨79, _⟩ => ⟨S2048x2048, .i1⟩
  | .hbm, ⟨80, _⟩ => ⟨S_, .i32⟩
  | .hbm, ⟨81, _⟩ => ⟨S2048x2048, .i32⟩
  | .hbm, ⟨82, _⟩ => ⟨S2048x2048, .i1⟩
  | .hbm, ⟨83, _⟩ => ⟨S2048x2048, .i1⟩
  | .hbm, ⟨84, _⟩ => ⟨S16x16x2048x2048, .f32⟩
  | .hbm, ⟨85, _⟩ => ⟨S_, .f32⟩
  | .hbm, ⟨86, _⟩ => ⟨S16x16x2048x2048, .f32⟩
  | .hbm, ⟨87, _⟩ => ⟨S16x16x2048x2048, .f32⟩
  | .hbm, ⟨88, _⟩ => ⟨S1x16x2048x2048, .f32⟩
  | .hbm, ⟨89, _⟩ => ⟨S16x16x2048x2048, .f32⟩
  | .hbm, ⟨90, _⟩ => ⟨S16x16x2048x2048, .f32⟩
  | .hbm, ⟨91, _⟩ => ⟨S_, .f32⟩
  | .hbm, ⟨92, _⟩ => ⟨S_, .f32⟩
  | .hbm, ⟨93, _⟩ => ⟨S16x16x2048x2048, .i1⟩
  | .hbm, ⟨94, _⟩ => ⟨S16x16x2048x2048, .f32⟩
  | .hbm, ⟨95, _⟩ => ⟨S16x16x2048x2048, .f32⟩
  | .hbm, ⟨96, _⟩ => ⟨S_, .f32⟩
  | .hbm, ⟨97, _⟩ => ⟨S16x16x2048, .f32⟩
  | .hbm, ⟨98, _⟩ => ⟨S_, .f32⟩
  | .hbm, ⟨99, _⟩ => ⟨S16x16x2048, .f32⟩
  | .hbm, ⟨100, _⟩ => ⟨S16x16x2048, .f32⟩
  | .hbm, ⟨101, _⟩ => ⟨S16x16x2048x1, .f32⟩
  | .hbm, ⟨102, _⟩ => ⟨S16x16x2048x2048, .f32⟩
  | .hbm, ⟨103, _⟩ => ⟨S16x16x2048x2048, .f32⟩
  | .hbm, ⟨104, _⟩ => ⟨S16x16x2048x2048, .f32⟩
  | .hbm, ⟨105, _⟩ => ⟨S_, .f32⟩
  | .hbm, ⟨106, _⟩ => ⟨S16x16x2048, .f32⟩
  | .hbm, ⟨107, _⟩ => ⟨S16x16x2048x1, .f32⟩
  | .hbm, ⟨108, _⟩ => ⟨S16x16x2048x2048, .f32⟩
  | .hbm, ⟨109, _⟩ => ⟨S16x16x2048x2048, .f32⟩
  | .hbm, ⟨110, _⟩ => ⟨S16x16x64x2048, .f32⟩
  | .hbm, ⟨111, _⟩ => ⟨S16x2048x16x64, .f32⟩
  | .hbm, ⟨112, _⟩ => ⟨S16x2048x1024, .f32⟩
  | .hbm, ⟨113, _⟩ => ⟨S16x2048x1024, .bf16⟩
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_c_6 : Ref sig .tc := ⟨.hbm, 77, rfl⟩
abbrev main_v31 : Ref sig .tc := ⟨.hbm, 78, rfl⟩
abbrev main_v32 : Ref sig .tc := ⟨.hbm, 79, rfl⟩
abbrev main_c_7 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_8 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v42 : Ref sig .tc := ⟨.hbm, 95, rfl⟩
abbrev main_cst_9 : Ref sig .tc := ⟨.hbm, 96, rfl⟩
abbrev main_v43 : Ref sig .tc := ⟨.hbm, 97, rfl⟩
abbrev main_cst_10 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_11 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩

abbrev nD : Nat := 1
abbrev τ : Topo := Topo.v7x

variable {F : FTy → Type} [FloatOps F]
-- ==== Up.lean ====
abbrev S287 : Shape := ⟨1, ![287]⟩
abbrev S1 : Shape := ⟨1, ![1]⟩
abbrev S146944x1024 : Shape := ⟨2, ![146944, 1024]⟩
abbrev S1x32x2048x4096 : Shape := ⟨4, ![1, 32, 2048, 4096]⟩
abbrev S1x32x4096 : Shape := ⟨3, ![1, 32, 4096]⟩
abbrev S32x2048x4096 : Shape := ⟨3, ![32, 2048, 4096]⟩
abbrev S32x4096 : Shape := ⟨2, ![32, 4096]⟩
abbrev S32x1x4096 : Shape := ⟨3, ![32, 1, 4096]⟩
abbrev S146944x2048 : Shape := ⟨2, ![146944, 2048]⟩
abbrev S512x1024 : Shape := ⟨2, ![512, 1024]⟩
abbrev S1x2048x512 : Shape := ⟨3, ![1, 2048, 512]⟩
abbrev S1x1x512 : Shape := ⟨3, ![1, 1, 512]⟩
abbrev S512x512 : Shape := ⟨2, ![512, 512]⟩
abbrev S2048x512 : Shape := ⟨2, ![2048, 512]⟩
abbrev S512x2048 : Shape := ⟨2, ![512, 2048]⟩
abbrev S1x512 : Shape := ⟨2, ![1, 512]⟩

abbrev nBuf : Space → Nat
  | .hbm => 8
  | .vmem => 14
  | .smem => 2
  | _ => 0

abbrev bufTy : (tb : Table) → Fin (tcTables nBuf tb) → BufTy
  | .hbm, ⟨0, _⟩ => ⟨S146944x1024, .i32⟩
  | .hbm, ⟨1, _⟩ => ⟨S1x32x2048x4096, .f32⟩
  | .hbm, ⟨2, _⟩ => ⟨S1x32x4096, .f32⟩
  | .hbm, ⟨3, _⟩ => ⟨S32x2048x4096, .f32⟩
  | .hbm, ⟨4, _⟩ => ⟨S32x4096, .f32⟩
  | .hbm, ⟨5, _⟩ => ⟨S32x1x4096, .f32⟩
  | .hbm, ⟨6, _⟩ => ⟨S32x1x4096, .f32⟩
  | .hbm, ⟨7, _⟩ => ⟨S146944x2048, .bf16⟩
  | .local _ .vmem, ⟨0, _⟩ => ⟨S512x1024, .i32⟩
  | .local _ .vmem, ⟨1, _⟩ => ⟨S512x1024, .i32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | .local _ .vmem, ⟨13, _⟩ => ⟨S2048x512, .bf16⟩
  | .local _ .smem, ⟨0, _⟩ => ⟨S287, .i32⟩
  | .local _ .smem, ⟨1, _⟩ => ⟨S1, .i32⟩
  | _, _ => ⟨S146944x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 287], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S287) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S287) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S287) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S287) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S287 : Shape := ⟨1, ![287]⟩
abbrev S1 : Shape := ⟨1, ![1]⟩
abbrev S146944x1024 : Shape := ⟨2, ![146944, 1024]⟩
abbrev S1x32x2048x4096 : Shape := ⟨4, ![1, 32, 2048, 4096]⟩
abbrev S1x32x4096 : Shape := ⟨3, ![1, 32, 4096]⟩
abbrev S146944x1024x2 : Shape := ⟨3, ![146944, 1024, 2]⟩
abbrev S287x512x1024x2 : Shape := ⟨4, ![287, 512, 1024, 2]⟩
abbrev S287x512x1024x1 : Shape := ⟨4, ![287, 512, 1024, 1]⟩
abbrev S287x512x1024 : Shape := ⟨3, ![287, 512, 1024]⟩
abbrev S287x512x2048 : Shape := ⟨3, ![287, 512, 2048]⟩
abbrev S32x2048x4096 : Shape := ⟨3, ![32, 2048, 4096]⟩
abbrev S_ : Shape := ⟨0, ![]⟩
abbrev S287x1 : Shape := ⟨2, ![287, 1]⟩
abbrev S287x2048x4096 : Shape := ⟨3, ![287, 2048, 4096]⟩
abbrev S32x4096 : Shape := ⟨2, ![32, 4096]⟩
abbrev S287x4096 : Shape := ⟨2, ![287, 4096]⟩
abbrev S287x1x4096 : Shape := ⟨3, ![287, 1, 4096]⟩
abbrev S287x512x4096 : Shape := ⟨3, ![287, 512, 4096]⟩
abbrev S287x1x1 : Shape := ⟨3, ![287, 1, 1]⟩
abbrev S146944x2048 : Shape := ⟨2, ![146944, 2048]⟩

abbrev nBuf : Space → Nat
  | .hbm => 78
  | .vmem => 0
  | .smem => 0
  | _ => 0

abbrev bufTy : (tb : Table) → Fin (tcTables nBuf tb) → BufTy
  | .hbm, ⟨0, _⟩ => ⟨S287, .i32⟩
  | .hbm, ⟨1, _⟩ => ⟨S1, .i32⟩
  | .hbm, ⟨2, _⟩ => ⟨S146944x1024, .i32⟩
  | .hbm, ⟨3, _⟩ => ⟨S1x32x2048x4096, .f32⟩
  | .hbm, ⟨4, _⟩ => ⟨S1x32x4096, .f32⟩
  | .hbm, ⟨5, _⟩ => ⟨S146944x1024x2, .bf16⟩
  | .hbm, ⟨6, _⟩ => ⟨S146944x1024x2, .f32⟩
  | .hbm, ⟨7, _⟩ => ⟨S287x512x1024x2, .f32⟩
  | .hbm, ⟨8, _⟩ => ⟨S287x512x1024x1, .f32⟩
  | .hbm, ⟨9, _⟩ => ⟨S287x512x1024, .f32⟩
  | .hbm, ⟨10, _⟩ => ⟨S287x512x1024x1, .f32⟩
  | .hbm, ⟨11, _⟩ => ⟨S287x512x1024, .f32⟩
  | .hbm, ⟨12, _⟩ => ⟨S287x512x2048, .f32⟩
  | .hbm, ⟨13, _⟩ => ⟨S32x2048x4096, .f32⟩
  | .hbm, ⟨14, _⟩ => ⟨S_, .i32⟩
  | .hbm, ⟨15, _⟩ => ⟨S287, .i32⟩
  | .hbm, ⟨16, _⟩ => ⟨S287, .i1⟩
  | .hbm, ⟨17, _⟩ => ⟨S_, .i32⟩
  | .hbm, ⟨18, _⟩ => ⟨S287, .i32⟩
  | .hbm, ⟨19, _⟩ => ⟨S287, .i32⟩
  | .hbm, ⟨20, _⟩ => ⟨S287, .i32⟩
  | .hbm, ⟨21, _⟩ => ⟨S287x1, .i32⟩
  | .hbm, ⟨22, _⟩ => ⟨S287x2048x4096, .f32⟩
  | .hbm, ⟨23, _⟩ => ⟨S32x4096, .f32⟩
  | .hbm, ⟨24, _⟩ => ⟨S_, .i32⟩
  | .hbm, ⟨25, _⟩ => ⟨S287, .i32⟩
  | .hbm, ⟨26, _⟩ => ⟨S287, .i1⟩
  | .hbm, ⟨27, _⟩ => ⟨S_, .i32⟩
  | .hbm, ⟨28, _⟩ => ⟨S287, .i32⟩
  | .hbm, ⟨29, _⟩ => ⟨S287, .i32⟩
  | .hbm, ⟨30, _⟩ => ⟨S287, .i32⟩
  | .hbm, ⟨31, _⟩ => ⟨S287x1, .i32⟩
  | .hbm, ⟨32, _⟩ => ⟨S287x4096, .f32⟩
  | .hbm, ⟨33, _⟩ => ⟨S287x1x4096, .f32⟩
  | .hbm, ⟨34, _⟩ => ⟨S287x512x4096, .f32⟩
  | .hbm, ⟨35, _⟩ => ⟨S287x512x4096, .f32⟩
  | .hbm, ⟨36, _⟩ => ⟨S287x512x4096, .f32⟩
  | .hbm, ⟨37, _⟩ => ⟨S287x512x2048, .f32⟩
  | .hbm, ⟨38, _⟩ => ⟨S287x512x2048, .f32⟩
  | .hbm, ⟨39, _⟩ => ⟨S_, .f32⟩
  | .hbm, ⟨40, _⟩ => ⟨S287x512x2048, .f32⟩
  | .hbm, ⟨41, _⟩ => ⟨S287x512x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S287x512x2048, .f32⟩
  | .hbm, ⟨46, _⟩ => ⟨S287x512x2048, .f32⟩
  | .hbm, ⟨47, _⟩ => ⟨S_, .f32⟩
  | .hbm, ⟨48, _⟩ => ⟨S287x512x2048, .f32⟩
  | .hbm, ⟨49, _⟩ => ⟨S287x512x2048, .f32⟩
  | .hbm, ⟨50, _⟩ => ⟨S_, .f32⟩
  | .hbm, ⟨51, _⟩ => ⟨S287x512x2048, .f32⟩
  | .hbm, ⟨52, _⟩ => ⟨S287x512x2048, .f32⟩
  | .hbm, ⟨53, _⟩ => ⟨S287x512x2048, .f32⟩
  | .hbm, ⟨54, _⟩ => ⟨S_, .f32⟩
  | .hbm, ⟨55, _⟩ => ⟨S287x512x2048, .f32⟩
  | .hbm, ⟨56, _⟩ => ⟨S287x512x2048, .f32⟩
  | .hbm, ⟨57, _⟩ => ⟨S287x512x2048, .f32⟩
  | .hbm, ⟨58, _⟩ => ⟨S287x512x2048, .f32⟩
  | .hbm, ⟨59, _⟩ => ⟨S_, .f32⟩
  | .hbm, ⟨60, _⟩ => ⟨S287x512x2048, .f32⟩
  | .hbm, ⟨61, _⟩ => ⟨S287x512x2048, .f32⟩
  | .hbm, ⟨62, _⟩ => ⟨S_, .f32⟩
  | .hbm, ⟨63, _⟩ => ⟨S287x512x2048, .f32⟩
  | .hbm, ⟨64, _⟩ => ⟨S287x512x2048, .f32⟩
  | .hbm, ⟨65, _⟩ => ⟨S287x512x2048, .f32⟩
  | .hbm, ⟨66, _⟩ => ⟨S287, .i32⟩
  | .hbm, ⟨67, _⟩ => ⟨S287x1x1, .i32⟩
  | .hbm, ⟨68, _⟩ => ⟨S_, .i32⟩
  | .hbm, ⟨69, _⟩ => ⟨S287x1x1, .i32⟩
  | .hbm, ⟨70, _⟩ => ⟨S287x1x1, .i1⟩
  | .hbm, ⟨71, _⟩ => ⟨S_, .f32⟩
  | .hbm, ⟨72, _⟩ => ⟨S_, .f32⟩
  | .hbm, ⟨73, _⟩ => ⟨S287x512x2048, .i1⟩
  | .hbm, ⟨74, _⟩ => ⟨S287x512x2048, .f32⟩
  | .hbm, ⟨75, _⟩ => ⟨S287x512x2048, .f32⟩
  | .hbm, ⟨76, _⟩ => ⟨S146944x2048, .f32⟩
  | .hbm, ⟨77, _⟩ => ⟨S146944x2048, .bf16⟩
  | _, _ => ⟨S287, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]
-- ==== Proof.ProjBody.lean ====
module

public import proofs.«01_k».proof.Proof.Gen.ProjIdeal.Value
public import Idealize.ShloMosaic.Lib.Pointwise
public import Idealize.ShloMosaic.Lib.MatmulPlain

@[expose] public section

noncomputable section

namespace Cert.Proof.ProjBody

open Cert.ProjIdeal Cert.ProjIdeal.Gen Idealize.ShloMosaic Idealize.ShloMosaic.TcCoe Idealize.SL.Sem
open Facts

/-- Component `k` of a row after normalisation: the row divided by its root mean square, times the scale `g`. -/
def nrm (x g : Fin 2048 → EReal) (k : Fin 2048) : EReal :=
  x k * Ideal.rsqrt (Ideal.div (∑ l, x l * x l) (Ideal.ofBits .f32 0x45000000#32) + Ideal.ofBits .f32 0x358637BD#32) * g k

/-- The normalised row times one column of the weights. -/
def prj (x g w : Fin 2048 → EReal) : EReal := ∑ k, nrm x g k * w k

/-- The kernel's normalised block, element by element. -/
theorem pay2_apply (x0 : Vec Ideal S256x2048 .f32) (x1 : Vec Ideal S1x2048 .f32) (r : Fin 256) (k : Fin 2048) :
    k0_pay2 (F := Ideal) x0 x1 (ix2 r k) = nrm (fun l => x0 (ix2 r l)) (fun l => x1 (ix2 0 l)) k := by
  pointwise [k0_pay2, nrm]

/-- The kernel's product of a block with 512 columns of the weights, element by element. -/
theorem mm_apply (h : FVec Ideal S256x2048 .bf16) (w : Vec Ideal S2048x512 .bf16) (r : Fin 256) (j : Fin 512) :
    matmul (F := Ideal) (φ₁ := .bf16) (φ₂ := .bf16) dot_S256x2048_S2048x512_S256x512_1_0_0_1_n_n none h
      (shapeCast S2048x512 w shapeCasts_S2048x512_S2048x512) (constant S256x512 .f32 0x00000000#32) (ix2 r j)
      = ∑ k : Fin 2048, h (ix2 r k) * w (ix2 k j) := by
  pointwise

/-- A load of all of the first block. -/
theorem ld0 (x0 : Vec Ideal S256x2048 .f32) : View.ld x0 r0_0 = x0 :=
  View.ld_unit_zero (by funext a; match a with | ⟨0, _⟩ => rfl | ⟨1, _⟩ => rfl) _ _

/-- A load of all of the scale row. -/
theorem ld1 (x1 : Vec Ideal S1x2048 .f32) : View.ld x1 r0_1 = x1 :=
  View.ld_unit_zero (by funext a; match a with | ⟨0, _⟩ => rfl | ⟨1, _⟩ => rfl) _ _

/-- One element of the whole product over a block: row `r` normalised, times column `j` of the weights. -/
def blkG (x0 : Vec Ideal S256x2048 .f32) (x1 : Vec Ideal S1x2048 .f32) (x2 : Vec Ideal S2048x5120 .bf16) (r : Fin 256) (j : Fin 5120) : EReal :=
  prj (fun l => x0 (ix2 r l)) (fun l => x1 (ix2 0 l)) (fun l => x2 (ix2 l j))

/-- The product of the normalised block with the 512 columns of the weights from `c0` on, element by element. -/
theorem mm_blk (x0 : Vec Ideal S256x2048 .f32) (x1 : Vec Ideal S1x2048 .f32) (x2 : Vec Ideal S2048x5120 .bf16)
    (c0 : Nat) (inb : ∀ a, (![0, c0] : Fin 2 → Nat) a + S2048x512.size a ≤ S2048x5120.size a) (r : Fin 256) (j : Fin 512)
    (j' : Fin 5120) (hj : j'.val = c0 + j.val) :
    matmul (F := Ideal) (φ₁ := .bf16) (φ₂ := .bf16) dot_S256x2048_S2048x512_S256x512_1_0_0_1_n_n none (k0_pay2 (F := Ideal) x0 x1)
      (shapeCast S2048x512 (View.ld x2 (Rect.unit (s := S2048x5120) ![0, c0] S2048x512.size inb)) shapeCasts_S2048x512_S2048x512) (constant S256x512 .f32 0x00000000#32) (ix2 r j)
      = blkG x0 x1 x2 r j' := by
  rw [mm_apply]
  unfold blkG prj
  refine Finset.sum_congr rfl fun k _ => ?_
  rw [pay2_apply]
  refine congrArg (nrm _ _ k * ·) (congrArg x2 ?_)
  funext a; apply Fin.ext
  match a with
  | ⟨0, _⟩ => show 0 + 1 * k.val = k.val; omega
  | ⟨1, _⟩ => show c0 + 1 * j.val = j'.val; omega

/-- The first output's block: the first 3072 columns of the product. -/
def G3 (x0 : Vec Ideal S256x2048 .f32) (x1 : Vec Ideal S1x2048 .f32) (x2 : Vec Ideal S2048x5120 .bf16) : Vec Ideal S256x3072 .bf16 :=
  fun y => blkG x0 x1 x2 (y 0) ⟨(y 1).val, lt_of_lt_of_le (y 1).isLt (by decide)⟩

/-- The second output's block: the other 2048 columns of the product. -/
def G4 (x0 : Vec Ideal S256x2048 .f32) (x1 : Vec Ideal S1x2048 .f32) (x2 : Vec Ideal S2048x5120 .bf16) : Vec Ideal S256x2048 .f32 :=
  fun y => blkG x0 x1 x2 (y 0) ⟨3072 + (y 1).val, Nat.add_lt_add_left (y 1).isLt 3072⟩

/-- One store into the first output: its 512 columns of `G3`. -/
theorem piece3 (x0 : Vec Ideal S256x2048 .f32) (x1 : Vec Ideal S1x2048 .f32) (x2 : Vec Ideal S2048x5120 .bf16)
    (c0 : Nat) (inb : ∀ a, (![0, c0] : Fin 2 → Nat) a + S2048x512.size a ≤ S2048x5120.size a)
    (inb' : ∀ a, (![0, c0] : Fin 2 → Nat) a + S256x512.size a ≤ S256x3072.size a) (x : S256x512.Idx) :
    matmul (F := Ideal) (φ₁ := .bf16) (φ₂ := .bf16) dot_S256x2048_S2048x512_S256x512_1_0_0_1_n_n none (k0_pay2 (F := Ideal) x0 x1)
      (shapeCast S2048x512 (View.ld x2 (Rect.unit (s := S2048x5120) ![0, c0] S2048x512.size inb)) shapeCasts_S2048x512_S2048x512) (constant S256x512 .f32 0x00000000#32) x
      = G3 x0 x1 x2 ((Rect.unit (s := S256x3072) ![0, c0] S256x512.size inb').emb x) := by
  rw [eq_ix2 x]
  refine (mm_blk x0 x1 x2 c0 inb (x 0) (x 1) ⟨c0 + 1 * (x 1).val, ?_⟩ ?_).trans (congrArg₂ (blkG x0 x1 x2) (Fin.ext ?_) (Fin.ext ?_))
  · have h := inb 1
    have h1 : (x 1).val < 512 := (x 1).isLt
    change c0 + 512 ≤ 5120 at h
    omega
  · show c0 + 1 * (x 1).val = c0 + (x 1).val; omega
  · show (x 0).val = 0 + 1 * (x 0).val; omega
  · rfl

/-- One store into the second output: its 512 columns of `G4`. -/
theorem piece4 (x0 : Vec Ideal S256x2048 .f32) (x1 : Vec Ideal S1x2048 .f32) (x2 : Vec Ideal S2048x5120 .bf16)
    (c0 c1 : Nat) (hc : c1 = 3072 + c0) (inb : ∀ a, (![0, c1] : Fin 2 → Nat) a + S2048x512.size a ≤ S2048x5120.size a)
    (inb' : ∀ a, (![0, c0] : Fin 2 → Nat) a + S256x512.size a ≤ S256x2048.size a) (x : S256x512.Idx) :
    matmul (F := Ideal) (φ₁ := .bf16) (φ₂ := .bf16) dot_S256x2048_S2048x512_S256x512_1_0_0_1_n_n none (k0_pay2 (F := Ideal) x0 x1)
      (shapeCast S2048x512 (View.ld x2 (Rect.unit (s := S2048x5120) ![0, c1] S2048x512.size inb)) shapeCasts_S2048x512_S2048x512) (constant S256x512 .f32 0x00000000#32) x
      = G4 x0 x1 x2 ((Rect.unit (s := S256x2048) ![0, c0] S256x512.size inb').emb x) := by
  rw [eq_ix2 x]
  refine (mm_blk x0 x1 x2 c1 inb (x 0) (x 1) ⟨3072 + (c0 + 1 * (x 1).val), ?_⟩ ?_).trans (congrArg₂ (blkG x0 x1 x2) (Fin.ext ?_) (Fin.ext ?_))
  · have h := inb 1
    have h1 : (x 1).val < 512 := (x 1).isLt
    change c1 + 512 ≤ 5120 at h
    omega
  · show 3072 + (c0 + 1 * (x 1).val) = c1 + (x 1).val; omega
  · show (x 0).val = 0 + 1 * (x 0).val; omega
  · rfl

/-- The block the kernel writes to the first output. -/
theorem out3_eq (x0 : Vec Ideal S256x2048 .f32) (x1 : Vec Ideal S1x2048 .f32) (x2 : Vec Ideal S2048x5120 .bf16) :
    out0_3 (F := Ideal) x0 x1 x2 = G3 x0 x1 x2 := by
  funext y
  unfold out0_3
  refine View.canon_apply_of_pieces (G3 x0 x1 x2) _ ?_ y (cover0_3 _ _ _ _ _ _ y)
  simp only [List.forall_mem_cons, List.not_mem_nil, false_imp_iff, implies_true, and_true, k0_pay12, ld0, ld1]
  exact ⟨fun x => piece3 x0 x1 x2 2560 _ _ x, fun x => piece3 x0 x1 x2 2048 _ _ x, fun x => piece3 x0 x1 x2 1536 _ _ x,
    fun x => piece3 x0 x1 x2 1024 _ _ x, fun x => piece3 x0 x1 x2 512 _ _ x, fun x => piece3 x0 x1 x2 0 _ _ x⟩

/-- The block the kernel writes to the second output. -/
theorem out4_eq (x0 : Vec Ideal S256x2048 .f32) (x1 : Vec Ideal S1x2048 .f32) (x2 : Vec Ideal S2048x5120 .bf16) :
    out0_4 (F := Ideal) x0 x1 x2 = G4 x0 x1 x2 := by
  funext y
  unfold out0_4
  refine View.canon_apply_of_pieces (G4 x0 x1 x2) _ ?_ y (cover0_4 _ _ _ _ y)
  simp only [List.forall_mem_cons, List.not_mem_nil, false_imp_iff, implies_true, and_true, k0_pay12, ld0, ld1]
  exact ⟨fun x => piece4 x0 x1 x2 1536 4608 rfl _ _ x, fun x => piece4 x0 x1 x2 1024 4096 rfl _ _ x,
    fun x => piece4 x0 x1 x2 512 3584 rfl _ _ x, fun x => piece4 x0 x1 x2 0 3072 rfl _ _ x⟩

end Cert.Proof.ProjBody

end
-- ==== Proof.ProjRun.lean ====
module

public import proofs.«01_k».proof.Proof.ProjBody
public import proofs.«01_k».proof.Proof.Gen.ProjRefIdeal.Run
public import proofs.«01_k».proof.Proof.Gen.ProjRefIdeal.Read
public import proofs.«01_k».proof.Defs

@[expose] public section

noncomputable section

namespace Cert.Proof.ProjRun

open Idealize.ShloMosaic Idealize.ShloMosaic.TcCoe Idealize.SL.Sem
open Cert.Proof.ProjBody

section Kernel
open Cert.ProjIdeal Cert.ProjIdeal.Gen Cert.ProjIdeal.Value

variable (m : (ℓ : Loc nD τ sig) → Buf (Elt Ideal) ℓ) (ρ : Dev nD → PrngReg)

/-- The block of each window at each of the 128 points. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)

/-- There are 128 points. -/
theorem point_lt (t : Fin cfg0.N) : t.val < 128 := lt_of_lt_of_eq t.isLt N_0

/-- Row `r` of block `t` among all rows. -/
def row (t : Fin cfg0.N) (r : Fin 256) : Fin 32768 := ⟨t.val * 256 + r.val, by have := point_lt t; omega⟩

/-- The block of rows at a point. -/
theorem iblk0_apply (c : Dev nD) (t : Fin cfg0.N) (r : Fin 256) (k : Fin 2048) :
    iblk m c 0 t (ix2 r k) = V m c main_v0 (ix2 (row t r) k) := by
  obtain ⟨e0, e1⟩ := idx0 t
  show V m c main_v0 (((cfg0.win 0).blk t).view.emb (ix2 r k)) = _
  refine congrArg (V m c main_v0) (funext fun a => Fin.ext ?_)
  match a with
  | ⟨0, _⟩ => show win0_0.index t (0 : Fin 2) * 256 + 1 * r.val = t.val * 256 + r.val; omega
  | ⟨1, _⟩ => show win0_0.index t (1 : Fin 2) * 2048 + 1 * k.val = k.val; omega

/-- The scale row is whole at every point. -/
theorem iblk1_apply (c : Dev nD) (t : Fin cfg0.N) (k : Fin 2048) :
    iblk m c 1 t (ix2 0 k) = V m c main_v4 (ix2 0 k) := by
  obtain ⟨e0, e1⟩ := idx1 t
  show V m c main_v4 (((cfg0.win 1).blk t).view.emb (ix2 0 k)) = _
  refine congrArg (V m c main_v4) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- The weights are whole at every point. -/
theorem iblk2_apply (c : Dev nD) (t : Fin cfg0.N) (k : Fin 2048) (j : Fin 5120) :
    iblk m c 2 t (ix2 k j) = V m c main_v3 (ix2 k j) := by
  obtain ⟨e0, e1⟩ := idx2 t
  show V m c main_v3 (((cfg0.win 2).blk t).view.emb (ix2 k j)) = _
  refine congrArg (V m c main_v3) (funext fun a => Fin.ext ?_)
  match a with
  | ⟨0, _⟩ => show win0_2.index t (0 : Fin 2) * 2048 + 1 * k.val = k.val; omega
  | ⟨1, _⟩ => show win0_2.index t (1 : Fin 2) * 5120 + 1 * j.val = j.val; omega

/-- Element `(r, j)` of the whole product, from the three arrays the region reads. -/
def arrG (c : Dev nD) (r : Fin 32768) (j : Fin 5120) : EReal :=
  prj (fun l => V m c main_v0 (ix2 r l)) (fun l => V m c main_v4 (ix2 0 l)) (fun l => V m c main_v3 (ix2 l j))

/-- A block's product is the array's product at the block's rows. -/
theorem blkG_eq (c : Dev nD) (t : Fin cfg0.N) (r : Fin 256) (j : Fin 5120) :
    blkG (iblk m c 0 t) (iblk m c 1 t) (iblk m c 2 t) r j = arrG m c (row t r) j := by
  unfold blkG arrG
  simp only [iblk0_apply, iblk1_apply, iblk2_apply]

/-- The first output array. -/
def A3 (c : Dev nD) : Vec Ideal S32768x3072 .bf16 :=
  fun i => arrG m c (i 0) ⟨(i 1).val, lt_of_lt_of_le (i 1).isLt (by decide)⟩

/-- The second output array. -/
def A4 (c : Dev nD) : Vec Ideal S32768x2048 .f32 :=
  fun i => arrG m c (i 0) ⟨3072 + (i 1).val, Nat.add_lt_add_left (i 1).isLt 3072⟩

theorem flushed3_eq (c : Dev nD) (t : Fin cfg0.N) :
    (dats m 0 c).flushed 3 t = ((cfg0.win 3).blk t).view.read (Elt Ideal) (A3 m c) := by
  rw [flushed3, out3_eq]
  obtain ⟨e0, e1⟩ := idx3 t
  funext j
  show blkG (iblk m c 0 t) (iblk m c 1 t) (iblk m c 2 t) (j 0) ⟨(j 1).val, _⟩ = A3 m c (((cfg0.win 3).blk t).view.emb j)
  refine (blkG_eq m c t _ _).trans (congrArg₂ (arrG m c) (Fin.ext ?_) (Fin.ext ?_))
  · show t.val * 256 + (j 0).val = win0_3.index t (0 : Fin 2) * 256 + 1 * (j 0).val; omega
  · show (j 1).val = win0_3.index t (1 : Fin 2) * 3072 + 1 * (j 1).val; omega

theorem flushed4_eq (c : Dev nD) (t : Fin cfg0.N) :
    (dats m 0 c).flushed 4 t = ((cfg0.win 4).blk t).view.read (Elt Ideal) (A4 m c) := by
  rw [flushed4, out4_eq]
  obtain ⟨e0, e1⟩ := idx4 t
  funext j
  show blkG (iblk m c 0 t) (iblk m c 1 t) (iblk m c 2 t) (j 0) ⟨3072 + (j 1).val, _⟩ = A4 m c (((cfg0.win 4).blk t).view.emb j)
  refine (blkG_eq m c t _ _).trans (congrArg₂ (arrG m c) (Fin.ext ?_) (Fin.ext ?_))
  · show t.val * 256 + (j 0).val = win0_4.index t (0 : Fin 2) * 256 + 1 * (j 0).val; omega
  · show 3072 + (j 1).val = 3072 + (win0_4.index t (1 : Fin 2) * 2048 + 1 * (j 1).val); omega

theorem covered3 (i : S32768x3072.Idx) :
    ∃ t : Fin cfg0.N, (cfg0.win 3).flush t = true ∧ i ∈ ((cfg0.win 3).blk t).view.set := by
  have h0 : (i 0).val < 32768 := (i 0).isLt
  have h1 : (i 1).val < 3072 := (i 1).isLt
  obtain ⟨t, ht⟩ : ∃ t : Fin cfg0.N, t.val = (i 0).val / 256 := ⟨⟨(i 0).val / 256, lt_of_lt_of_eq (by omega) N_0.symm⟩, rfl⟩
  obtain ⟨e0, e1⟩ := idx3 t
  have h := ((cfg0.win 3).blk t).view.emb_mem_set (ix2 ⟨(i 0).val % 256, Nat.mod_lt _ (by decide)⟩ ⟨(i 1).val, h1⟩ : S256x3072.Idx)
  have e : ((cfg0.win 3).blk t).view.emb (ix2 ⟨(i 0).val % 256, Nat.mod_lt _ (by decide)⟩ ⟨(i 1).val, h1⟩ : S256x3072.Idx) = (show ((cfg0.win 3).blk t).view.ty.Idx from i) :=
    funext fun a => Fin.ext (by
      match a with
      | ⟨0, _⟩ => show win0_3.index t (0 : Fin 2) * 256 + 1 * ((i 0).val % 256) = (i 0).val; omega
      | ⟨1, _⟩ => show win0_3.index t (1 : Fin 2) * 3072 + 1 * (i 1).val = (i 1).val; omega)
  rw [e] at h
  exact ⟨t, flush0_3 t, h⟩

theorem covered4 (i : S32768x2048.Idx) :
    ∃ t : Fin cfg0.N, (cfg0.win 4).flush t = true ∧ i ∈ ((cfg0.win 4).blk t).view.set := by
  have h0 : (i 0).val < 32768 := (i 0).isLt
  have h1 : (i 1).val < 2048 := (i 1).isLt
  obtain ⟨t, ht⟩ : ∃ t : Fin cfg0.N, t.val = (i 0).val / 256 := ⟨⟨(i 0).val / 256, lt_of_lt_of_eq (by omega) N_0.symm⟩, rfl⟩
  obtain ⟨e0, e1⟩ := idx4 t
  have h := ((cfg0.win 4).blk t).view.emb_mem_set (ix2 ⟨(i 0).val % 256, Nat.mod_lt _ (by decide)⟩ ⟨(i 1).val, h1⟩ : S256x2048.Idx)
  have e : ((cfg0.win 4).blk t).view.emb (ix2 ⟨(i 0).val % 256, Nat.mod_lt _ (by decide)⟩ ⟨(i 1).val, h1⟩ : S256x2048.Idx) = (show ((cfg0.win 4).blk t).view.ty.Idx from i) :=
    funext fun a => Fin.ext (by
      match a with
      | ⟨0, _⟩ => show win0_4.index t (0 : Fin 2) * 256 + 1 * ((i 0).val % 256) = (i 0).val; omega
      | ⟨1, _⟩ => show win0_4.index t (1 : Fin 2) * 2048 + 1 * (i 1).val = (i 1).val; omega)
  rw [e] at h
  exact ⟨t, flush0_4 t, h⟩

/-- The first output array after the run. -/
theorem final3 (c : Dev nD) : (dats m 0 c).arrAt 3 cfg0.N = A3 m c :=
  (dats m 0 c).arrAt_eq_of_cover 3 (A3 m c) (fun t _ => flushed3_eq m c t) covered3

/-- The second output array after the run. -/
theorem final4 (c : Dev nD) : (dats m 0 c).arrAt 4 cfg0.N = A4 m c :=
  (dats m 0 c).arrAt_eq_of_cover 4 (A4 m c) (fun t _ => flushed4_eq m c t) covered4

/-- The arrays the region reads, as reshapes of the arguments. -/
theorem V_v0 (c : Dev nD) : V m c main_v0 = shapeCast _ (m ((c : Thread nD τ).loc main_arg0)) shapeCasts_S16x2048x2048_S32768x2048 := by
  unfold_abbrev_sides
  after_results
  try rfl

theorem V_v3 (c : Dev nD) : V m c main_v3 = truncf (F := Ideal) .bf16 (shapeCast _ (m ((c : Thread nD τ).loc main_arg2)) shapeCasts_S1x2048x5120_S2048x5120) bitsLt_bf16_f32 := by
  unfold_abbrev_sides
  after_results
  try rfl

theorem V_v4 (c : Dev nD) : V m c main_v4 = shapeCast _ (shapeCast _ (m ((c : Thread nD τ).loc main_arg1)) shapeCasts_S1x2048_S2048) shapeCasts_S2048_S1x2048 := by
  unfold_abbrev_sides
  after_results
  try rfl

end Kernel

section Reference
open Cert.ProjRefIdeal Cert.ProjRefIdeal.Gen Cert.ProjRefIdeal.Read

/-- The reference's product, element by element. -/
theorem ref_apply (x0 : Vec Ideal S16x2048x2048 .f32) (x1 : Vec Ideal S1x2048 .f32) (x2 : Vec Ideal S1x2048x5120 .f32)
    (r : Fin 32768) (j : Fin 5120) :
    val_main_v16 (F := Ideal) x0 x1 x2 (ix2 r j)
      = prj (fun l => val_main_v0 (F := Ideal) x0 (ix2 r l)) (fun l => val_main_v11 (F := Ideal) x1 (ix1 l)) (fun l => val_main_v15 (F := Ideal) x2 (ix2 l j)) := by
  pointwise [val_main_v16, val_main_v14, val_main_v13, val_main_v12, val_main_v10, val_main_v9, val_main_v8, val_main_v7, val_main_v6, val_main_v5, val_main_v4, val_main_v3, val_main_v2, val_main_v1, val_main_cst, val_main_cst_0, val_main_cst_1, prj, nrm]

end Reference

/-- The two programs' products agree, element by element, on equal arguments. -/
theorem arrG_eq (m : (ℓ : Loc ProjIdeal.nD ProjIdeal.τ ProjIdeal.sig) → Buf (Elt Ideal) ℓ) (c : Dev ProjIdeal.nD) (r : Fin 32768) (j : Fin 5120) :
    arrG m c r j = ProjRefIdeal.Read.val_main_v16 (F := Ideal) (m ((c : Thread ProjIdeal.nD ProjIdeal.τ).loc ProjIdeal.main_arg0))
      (m ((c : Thread ProjIdeal.nD ProjIdeal.τ).loc ProjIdeal.main_arg1)) (m ((c : Thread ProjIdeal.nD ProjIdeal.τ).loc ProjIdeal.main_arg2)) (ix2 r j) := by
  rw [ref_apply]
  unfold arrG
  rw [V_v0, V_v3, V_v4]
  refine congrArg₂ (fun a b => prj a b _) rfl (funext fun l => ?_)
  refine (shapeCast_apply _ _ (ix2 0 l) (ix1 l) ?_)
  rw [Shape.rowMajor_val_two, Shape.rowMajor_val_one]
  show l.val = 0 * 2048 + l.val
  omega

/-- The kernel and the reference end with equal results. -/
theorem algebraic : Cert.algebraic_ProjIdeal_ProjRefIdeal (hProjIdeal := Cert.ProjIdeal.Gen.facts) (hProjRefIdeal := Cert.ProjRefIdeal.Gen.facts) := by
  intro m g m' g' _ hagree
  refine ⟨fun c => A3 m c, fun c => A4 m c, ?_, ?_⟩
  · exact (θ_run _ _ _).mono (fun r h c => ⟨(h c).1.trans (final3 m c), (h c).2.1.trans (final4 m c), (h c).2.2⟩) (ProjIdeal.Value.run_blocks m g)
  · refine (θ_run _ _ _).mono (fun r h c => ⟨(h c).1.trans ?_, (h c).2.1.trans ?_, (h c).2.2⟩) (ProjRefIdeal.Value.run m' g')
    · obtain ⟨h0, h1, h2⟩ := hagree c
      rw [ProjRefIdeal.Read.val_main_v18_eq, h0, h1, h2]
      funext i
      refine (ProjRefIdeal.Read.val_main_v17_apply _ _ _ i).trans (Eq.trans ?_ (arrG_eq m c (i 0) ⟨(i 1).val, lt_of_lt_of_le (i 1).isLt (by decide)⟩).symm)
      exact congrArg _ (funext fun a => Fin.ext (by match a with | ⟨0, _⟩ => rfl | ⟨1, _⟩ => rfl))
    · obtain ⟨h0, h1, h2⟩ := hagree c
      rw [ProjRefIdeal.Read.val_main_v19_eq, h0, h1, h2]
      funext i
      refine (ProjRefIdeal.Read.val_main_v19_apply _ _ _ i).trans (Eq.trans ?_ (arrG_eq m c (i 0) ⟨3072 + (i 1).val, Nat.add_lt_add_left (i 1).isLt 3072⟩).symm)
      exact congrArg _ (funext fun a => Fin.ext (by match a with | ⟨0, _⟩ => rfl | ⟨1, _⟩ => rfl))

end Cert.Proof.ProjRun

end
-- ==== Proof.AttMath.lean ====
module

public import Idealize.ShloMosaic.Lib.Pointwise

@[expose] public section

noncomputable section

namespace Cert.Proof.AttMath

open Idealize.ShloMosaic

/-- The largest of finitely many scores. -/
def top {n : Nat} (s : Fin n → EReal) : EReal := Finset.fold max ⊥ s Finset.univ

/-- The sum of the exponentials of the scores below their maximum. -/
def mass {n : Nat} (s : Fin n → EReal) : EReal := ∑ x, Ideal.exp (s x - top s)

/-- The softmax average with one division, after the sum. -/
def late {n : Nat} (s v : Fin n → EReal) : EReal := Ideal.div (∑ x, Ideal.exp (s x - top s) * v x) (mass s)

/-- The softmax average, each weight divided by the mass before it meets its value. -/
def soft {n : Nat} (s v : Fin n → EReal) : EReal := ∑ x, v x * Ideal.div (Ideal.exp (s x - top s)) (mass s)

theorem le_top {n : Nat} (s : Fin n → EReal) (x : Fin n) : s x ≤ top s :=
  (Finset.le_fold_max (s x)).2 (Or.inr ⟨x, Finset.mem_univ x, le_rfl⟩)

theorem top_le {n : Nat} (s : Fin n → EReal) (c : EReal) (h : ∀ x, s x ≤ c) : top s ≤ c :=
  (Finset.fold_max_le c).2 ⟨bot_le, fun x _ => h x⟩

/-- The exponential is positive or zero. -/
theorem exp_nonneg (a : EReal) : 0 ≤ Ideal.exp a := by
  induction a using EReal.rec with
  | bot => exact le_rfl
  | top => exact le_top'
  | coe r => exact EReal.coe_nonneg.2 (Real.exp_pos r).le
where le_top' : (0 : EReal) ≤ Ideal.exp ⊤ := _root_.le_top

/-- Of a number that is not positive, it is at most one. -/
theorem exp_le_one (a : EReal) (h : a ≤ 0) : Ideal.exp a ≤ 1 := by
  induction a using EReal.rec with
  | bot => exact zero_le_one
  | top => exact absurd h (by decide)
  | coe r => exact EReal.coe_le_coe_iff.2 (Real.exp_le_one_iff.2 (EReal.coe_nonpos.1 h))

theorem exp_bot_sub (a : EReal) : Ideal.exp (⊥ - a) = 0 := by rw [EReal.bot_sub]; rfl

/-- A finite maximum is attained. -/
theorem top_attained {n : Nat} (s : Fin n → EReal) (h : top s ≠ ⊥) : ∃ x, s x = top s := by
  rcases (Finset.le_fold_max (b := ⊥) (f := s) (s := Finset.univ) (top s)).1 le_rfl with h0 | ⟨x, _, hx⟩
  · exact absurd (le_bot_iff.1 h0) h
  · exact ⟨x, le_antisymm (le_top s x) hx⟩

theorem sub_self_real (a : EReal) (h1 : a ≠ ⊤) (h2 : a ≠ ⊥) : a - a = 0 := by
  lift a to ℝ using ⟨h1, h2⟩
  rw [← EReal.coe_sub, sub_self]; rfl

/-- With a finite maximum the mass is not zero and not infinite. -/
theorem mass_pos {n : Nat} (s : Fin n → EReal) (h1 : top s ≠ ⊤) (h2 : top s ≠ ⊥) : 1 ≤ mass s ∧ mass s ≠ ⊤ := by
  constructor
  · obtain ⟨x, hx⟩ := top_attained s h2
    have e : Ideal.exp (s x - top s) = 1 := by
      rw [hx, sub_self_real _ h1 h2]; show ((Real.exp 0 : ℝ) : EReal) = 1; rw [Real.exp_zero]; rfl
    rw [← e]
    exact Finset.single_le_sum (f := fun y => Ideal.exp (s y - top s)) (fun y _ => exp_nonneg _) (Finset.mem_univ x)
  · have hle : mass s ≤ ∑ _x : Fin n, (1 : EReal) :=
      Finset.sum_le_sum fun y _ => exp_le_one _ (by
        have := EReal.sub_le_sub (le_top s y) (le_refl (top s))
        rwa [sub_self_real _ h1 h2] at this)
    have hc : (∑ _x : Fin n, (1 : EReal)) = ((n : ℝ) : EReal) := by
      rw [Finset.sum_const, Finset.card_univ, Fintype.card_fin, nsmul_one]; rfl
    rw [hc] at hle
    exact ne_of_lt (lt_of_le_of_lt hle (EReal.coe_lt_top _))

/-- A factor that is positive and finite may leave a sum. -/
theorem sum_mul_right {n : Nat} (f : Fin n → EReal) (c : EReal) (h0 : 0 ≤ c) (h1 : c ≠ ⊤) : (∑ x, f x * c) = (∑ x, f x) * c := by
  induction (Finset.univ : Finset (Fin n)) using Finset.induction_on with
  | empty => simp
  | insert a s ha ih => rw [Finset.sum_insert ha, Finset.sum_insert ha, ih, EReal.right_distrib_of_nonneg_of_ne_top h0 h1]

/-- With a finite maximum it does not matter whether the division comes before or after the sum. -/
theorem late_eq_soft {n : Nat} (s v : Fin n → EReal) (h1 : top s ≠ ⊤) (h2 : top s ≠ ⊥) : late s v = soft s v := by
  obtain ⟨hp, ht⟩ := mass_pos s h1 h2
  have h0 : mass s ≠ 0 := (lt_of_lt_of_le zero_lt_one hp).ne'
  have hpos : 0 ≤ mass s := le_trans zero_le_one hp
  unfold late soft Ideal.div
  simp only [if_neg h0]
  have hi0 : 0 ≤ (mass s)⁻¹ := EReal.inv_nonneg_of_nonneg hpos
  have hi1 : (mass s)⁻¹ ≠ ⊤ := by
    lift mass s to ℝ using ⟨ht, fun h => absurd (h ▸ hpos) (not_le.2 EReal.bot_lt_zero)⟩ with r
    rw [← EReal.coe_inv]; exact EReal.coe_ne_top _
  rw [← sum_mul_right _ _ hi0 hi1]
  exact Finset.sum_congr rfl fun x _ => by rw [mul_right_comm, mul_comm]

/-! ## A window of 768 positions among 2048 -/

/-- A sum over the window is the sum over all positions when both vanish off their common part. -/
theorem sum_window (f : Fin 768 → EReal) (g : Fin 2048 → EReal) (s0 : Nat) (hs : s0 + 256 ≤ 2048)
    (hin : ∀ k u, k.val + s0 = u.val + 512 → f k = g u)
    (hf : ∀ k, k.val + s0 < 512 → f k = 0)
    (hg : ∀ u, u.val + 512 < s0 ∨ s0 + 256 ≤ u.val → g u = 0) : (∑ k, f k) = ∑ u, g u := by
  refine Finset.sum_bij_ne_zero (fun k _ hk => ⟨k.val + s0 - 512, by have := k.isLt; omega⟩) (fun _ _ _ => Finset.mem_univ _) ?_ ?_ ?_
  · intro a _ ha b _ hb e
    have h1 : ¬ a.val + s0 < 512 := fun h => ha (hf a h)
    have h2 : ¬ b.val + s0 < 512 := fun h => hb (hf b h)
    have e' : a.val + s0 - 512 = b.val + s0 - 512 := congrArg Fin.val e
    exact Fin.ext (by omega)
  · intro u _ hu
    have h1 : ¬ (u.val + 512 < s0 ∨ s0 + 256 ≤ u.val) := fun h => hu (hg u h)
    have e : f ⟨u.val + 512 - s0, by omega⟩ = g u := hin _ _ (by show u.val + 512 - s0 + s0 = u.val + 512; omega)
    exact ⟨⟨u.val + 512 - s0, by omega⟩, Finset.mem_univ _, by rw [e]; exact hu, Fin.ext (by show u.val + 512 - s0 + s0 - 512 = u.val; omega)⟩
  · intro k _ hk
    have h1 : ¬ k.val + s0 < 512 := fun h => hk (hf k h)
    exact hin _ _ (by show k.val + s0 = k.val + s0 - 512 + 512; omega)

/-- The softmax average over the window is the one over all positions, when what lies off their common part is masked. -/
theorem late_window (s v : Fin 768 → EReal) (s' v' : Fin 2048 → EReal) (s0 : Nat) (hs : s0 + 256 ≤ 2048)
    (hin : ∀ k u, k.val + s0 = u.val + 512 → s k = s' u ∧ v k = v' u)
    (hf : ∀ k, k.val + s0 < 512 → s k = ⊥)
    (hg : ∀ u, u.val + 512 < s0 ∨ s0 + 256 ≤ u.val → s' u = ⊥) : late s v = late s' v' := by
  have ht : top s = top s' := by
    apply le_antisymm
    · refine top_le s _ fun k => ?_
      by_cases h : k.val + s0 < 512
      · rw [hf k h]; exact bot_le
      · have hu : k.val + s0 - 512 < 2048 := by have := k.isLt; omega
        rw [(hin k ⟨_, hu⟩ (by show k.val + s0 = k.val + s0 - 512 + 512; omega)).1]; exact le_top s' _
    · refine top_le s' _ fun u => ?_
      by_cases h : u.val + 512 < s0 ∨ s0 + 256 ≤ u.val
      · rw [hg u h]; exact bot_le
      · have hk : u.val + 512 - s0 < 768 := by omega
        rw [← (hin ⟨_, hk⟩ u (by show u.val + 512 - s0 + s0 = u.val + 512; omega)).1]; exact le_top s _
  unfold late mass
  rw [ht]
  refine congrArg₂ Ideal.div (sum_window _ _ s0 hs ?_ ?_ ?_) (sum_window _ _ s0 hs ?_ ?_ ?_)
  · intro k u h; rw [(hin k u h).1, (hin k u h).2]
  · intro k h; rw [hf k h, exp_bot_sub, zero_mul]
  · intro u h; rw [hg u h, exp_bot_sub, zero_mul]
  · intro k u h; rw [(hin k u h).1]
  · intro k h; rw [hf k h, exp_bot_sub]
  · intro u h; rw [hg u h, exp_bot_sub]

/-! ## Finite numbers -/

/-- A finite number. -/
def Fin' (x : EReal) : Prop := x ≠ ⊤ ∧ x ≠ ⊥

theorem fin_iff (x : EReal) : Fin' x ↔ ∃ r : ℝ, x = (r : EReal) := by
  constructor
  · rintro ⟨h1, h2⟩; lift x to ℝ using ⟨h1, h2⟩; exact ⟨x, rfl⟩
  · rintro ⟨r, rfl⟩; exact ⟨EReal.coe_ne_top _, EReal.coe_ne_bot _⟩

theorem fin_mul {x y : EReal} (hx : Fin' x) (hy : Fin' y) : Fin' (x * y) := by
  obtain ⟨a, rfl⟩ := (fin_iff x).1 hx; obtain ⟨b, rfl⟩ := (fin_iff y).1 hy
  exact (fin_iff _).2 ⟨a * b, (EReal.coe_mul a b).symm⟩

theorem fin_add {x y : EReal} (hx : Fin' x) (hy : Fin' y) : Fin' (x + y) := by
  obtain ⟨a, rfl⟩ := (fin_iff x).1 hx; obtain ⟨b, rfl⟩ := (fin_iff y).1 hy
  exact (fin_iff _).2 ⟨a + b, (EReal.coe_add a b).symm⟩

theorem fin_sum {n : Nat} (f : Fin n → EReal) (h : ∀ x, Fin' (f x)) : Fin' (∑ x, f x) :=
  Finset.sum_induction f Fin' (fun _ _ => fin_add) ((fin_iff 0).2 ⟨0, rfl⟩) (fun x _ => h x)

/-- The scale of the scores is an eighth. -/
theorem eighth : Ideal.ofBits .f32 0x3E000000#32 = ((1 / 8 : ℝ) : EReal) := by
  simp [Ideal.ofBits, Ideal.ieee]
  rw [← EReal.coe_mul]
  norm_num

theorem fin_eighth : Fin' (Ideal.ofBits .f32 0x3E000000#32) := (fin_iff _).2 ⟨_, eighth⟩

theorem ninf : Ideal.ofBits .f32 0xFF800000#32 = ⊥ := by
  simp [Ideal.ofBits, Ideal.ieee]

/-- The softmax average with one division, its maximum taken from a given start. -/
def lateFrom (b : EReal) {n : Nat} (s v : Fin n → EReal) : EReal :=
  Ideal.div (∑ x, Ideal.exp (s x - Finset.fold max b s Finset.univ) * v x) (∑ x, Ideal.exp (s x - Finset.fold max b s Finset.univ))

/-- From the constant that stands for minus infinity it is the average itself. -/
theorem lateFrom_ninf {n : Nat} (s v : Fin n → EReal) : lateFrom (Ideal.ofBits .f32 0xFF800000#32) s v = late s v := by
  rw [ninf]; rfl

theorem pinf : Ideal.ofBits .f32 0x7F800000#32 = ⊤ := by
  simp [Ideal.ofBits, Ideal.ieee]

end Cert.Proof.AttMath
end
-- ==== Proof.AttBody.lean ====
module

public import proofs.«01_k».proof.Proof.AttMath
public import proofs.«01_k».proof.Proof.Gen.AttIdeal.Value
public import Idealize.ShloMosaic.Lib.Pointwise
public import Idealize.ShloMosaic.Lib.MatmulPlain

@[expose] public section

noncomputable section

namespace Cert.Proof.AttBody

open Cert.AttIdeal Cert.AttIdeal.Gen Idealize.ShloMosaic Idealize.ShloMosaic.TcCoe Idealize.SL.Sem
open Cert.Proof.AttMath
open Facts

/-- The scale of the scores. -/
abbrev sc : EReal := Ideal.ofBits .f32 0x3E000000#32

/-- The named constant of the masks. -/
abbrev negK : EReal := (Named.named κ "neg" 0xF149F2CA#32 : Ideal .f32)

/-- The named constant of the masks is minus infinity. -/
theorem neg_eq : negK = ⊥ := IdealRules.named_const.ideal_named_scalar _ _ _ _ rfl

/-- The scores of the second head of a block, element by element. -/
theorem pay9_apply (q : Vec Ideal S1x256x128 .bf16) (kk : Vec Ideal S768x128 .bf16) (r : Fin 256) (k : Fin 768) :
    k0_pay9 (F := Ideal) q kk (ix2 r k) = (∑ x : Fin 64, q (ix3 0 r ⟨64 + x.val, by omega⟩) * kk (ix2 k ⟨64 + x.val, by omega⟩)) * sc := by
  pointwise [k0_pay9, k0_pay6]

/-- The mask of the positions before the sequence's start, element by element. -/
theorem pay7_apply (v18 : IVec S256x768 32) (hv : ∀ r k, v18 (ix2 r k) = BitVec.ofNat 32 k.val) (t : Fin k0_t1_loop.trips) (r : Fin 256) (k : Fin 768) :
    k0_pay7 v18 0#32 1#32 t (ix2 r k) = IntOp.cmpi .slt (BitVec.ofNat 32 k.val) (Scalar.subi 512#32 (Scalar.muli (Scf.iv 0#32 1#32 t) 256#32)) := by
  rw [← hv r k]
  pointwise [k0_pay7]

/-- The mask is set where the window's position lies before the sequence's start. -/
theorem mask_iff : ∀ (t : Fin k0_t1_loop.trips) (k : Fin 768),
    IntOp.cmpi .slt (BitVec.ofNat 32 k.val) (Scalar.subi 512#32 (Scalar.muli (Scf.iv 0#32 1#32 t) 256#32)) = BitVec.ofBool (decide (k.val + 256 * t.val < 512)) := by
  decide +kernel

/-- A choice by such a mask. -/
theorem select_ofBool {α : Type} (p : Prop) [Decidable p] (x y : α) : Scalar.select (BitVec.ofBool (decide p)) x y = if p then x else y := by
  by_cases h : p <;> simp [Scalar.select, h]

/-- The masked scores of one head over the window of a block's trip. -/
def sel (t : Nat) (s : Fin 768 → EReal) (k : Fin 768) : EReal := if k.val + 256 * t < 512 then ⊥ else s k

/-- The first head's result, element by element. -/
theorem pay8_apply (v18 : IVec S256x768 32) (hv : ∀ r k, v18 (ix2 r k) = BitVec.ofNat 32 k.val) (t : Fin k0_t1_loop.trips)
    (q : Vec Ideal S1x256x128 .bf16) (kk vv : Vec Ideal S768x128 .bf16) (b : Vec Ideal S1x256x768 .f32) (r : Fin 256) (d : Fin 64) :
    k0_pay8 (F := Ideal) v18 0#32 1#32 t q kk vv b (ix2 r d)
      = late (sel t.val fun k => (∑ x : Fin 64, q (ix3 0 r ⟨x.val, by omega⟩) * kk (ix2 k ⟨x.val, by omega⟩)) * sc + b (ix3 0 r k)) (fun k => vv (ix2 k ⟨d.val, by omega⟩)) := by
  have h : k0_pay8 (F := Ideal) v18 0#32 1#32 t q kk vv b (ix2 r d)
      = lateFrom (Ideal.ofBits .f32 0xFF800000#32) (fun k => Scalar.select (k0_pay7 v18 0#32 1#32 t (ix2 r k)) negK
          ((∑ x : Fin 64, q (ix3 0 r ⟨x.val, by omega⟩) * kk (ix2 k ⟨x.val, by omega⟩)) * sc + b (ix3 0 r k))) (fun k => vv (ix2 k ⟨d.val, by omega⟩)) := by
    pointwise [k0_pay8, k0_pay6, lateFrom]
  rw [h, lateFrom_ninf]
  refine congrArg (late · _) (funext fun k => ?_)
  rw [pay7_apply v18 hv, mask_iff, select_ofBool, neg_eq]
  rfl

/-- The two heads' results beside each other, element by element. -/
theorem pay5_apply (vv : Vec Ideal S768x128 .bf16) (mk : IVec S256x768 1) (v53 : FVec Ideal S256x64 .f32) (v58 : FVec Ideal S256x768 .f32)
    (b : Vec Ideal S1x256x768 .f32) (r : Fin 256) (d : Fin 128) :
    k0_pay5 (F := Ideal) vv mk v53 v58 b (ix3 0 r d) = if h : d.val < 64 then v53 (ix2 r ⟨d.val, h⟩) else
      lateFrom (Ideal.ofBits .f32 0xFF800000#32) (fun k => Scalar.select (mk (ix2 r k)) negK (v58 (ix2 r k) + b (ix3 0 r k)))
        (fun k => vv (ix2 k ⟨64 + (d.val - 64), by omega⟩)) := by
  pointwise [k0_pay5, lateFrom]

/-- What one trip stores, element by element: the two heads beside each other. -/
theorem trip_apply (v18 : IVec S256x768 32) (hv : ∀ r k, v18 (ix2 r k) = BitVec.ofNat 32 k.val) (t : Fin k0_t1_loop.trips)
    (q : Vec Ideal S1x256x128 .bf16) (kk vv : Vec Ideal S768x128 .bf16) (b0 b1 : Vec Ideal S1x256x768 .f32) (r : Fin 256) (d : Fin 128)
    (h0 : 64 * (d.val / 64) + 64 ≤ 128) :
    k0_pay5 (F := Ideal) vv (k0_pay7 v18 0#32 1#32 t) (k0_pay8 (F := Ideal) v18 0#32 1#32 t q kk vv b0) (k0_pay9 (F := Ideal) q kk) b1 (ix3 0 r d)
      = late (sel t.val fun k => (∑ x : Fin 64, q (ix3 0 r ⟨64 * (d.val / 64) + x.val, by omega⟩) * kk (ix2 k ⟨64 * (d.val / 64) + x.val, by omega⟩)) * sc
            + (if d.val < 64 then b0 else b1) (ix3 0 r k)) (fun k => vv (ix2 k d)) := by
  rw [pay5_apply]
  by_cases h : d.val < 64
  · have e : d.val / 64 = 0 := Nat.div_eq_of_lt h
    rw [dif_pos h, pay8_apply v18 hv]
    simp only [if_pos h, e, Nat.mul_zero, Nat.zero_add, Fin.eta]
  · have e : d.val / 64 = 1 := by omega
    have e2 : 64 + (d.val - 64) = d.val := by omega
    rw [dif_neg h, lateFrom_ninf]
    simp only [if_neg h, e, Nat.mul_one, e2, Fin.eta]
    refine congrArg (late · _) (funext fun k => ?_)
    rw [pay7_apply v18 hv, mask_iff, select_ofBool, neg_eq, pay9_apply]
    rfl

/-- A scratch of 512 zero rows followed by a sequence's 2048 rows. -/
def pad (x : Vec Ideal S1x2048x128 .bf16) (k : Nat) (d : Fin 128) : EReal :=
  if h : 512 ≤ k ∧ k < 2560 then x (ix3 0 ⟨k - 512, by omega⟩ d) else 0

/-- Element `(t, d)` of a block: its head's average over its window. -/
def blkO (x0 x1 x2 : Vec Ideal S1x2048x128 .bf16) (x3 : Vec Ideal S2x256x768 .f32) (t : Fin 2048) (d : Fin 128) : EReal :=
  late (sel (t.val / 256) fun k => (∑ x : Fin 64, x0 (ix3 0 t ⟨64 * (d.val / 64) + x.val, by omega⟩) * pad x1 (256 * (t.val / 256) + k.val) ⟨64 * (d.val / 64) + x.val, by omega⟩) * sc
      + x3 (ix3 ⟨d.val / 64, by omega⟩ ⟨t.val % 256, Nat.mod_lt _ (by decide)⟩ k)) (fun k => pad x2 (256 * (t.val / 256) + k.val) d)

/-- A block's result. -/
def G (x0 x1 x2 : Vec Ideal S1x2048x128 .bf16) (x3 : Vec Ideal S2x256x768 .f32) : Vec Ideal S1x2048x128 .bf16 :=
  fun y => blkO x0 x1 x2 x3 (y 1) (y 2)

/-- The zero rows of a scratch. -/
theorem zeros_apply (x : S512x128.Idx) : k0_pay1 (F := Ideal) x = 0 ∧ k0_pay2 (F := Ideal) x = 0 := by
  rw [eq_ix2 x]
  have h1 : k0_pay1 (F := Ideal) (ix2 (x 0) (x 1)) = Ideal.ofBits .bf16 0x0000#16 := by pointwise [k0_pay1]
  have h2 : k0_pay2 (F := Ideal) (ix2 (x 0) (x 1)) = Ideal.ofBits .bf16 0x0000#16 := by pointwise [k0_pay2]
  have e : Ideal.ofBits .bf16 0x0000#16 = 0 := by simp [Ideal.ofBits, Ideal.ieee]
  exact ⟨h1.trans e, h2.trans e⟩

/-- The sequence's rows of a scratch. -/
theorem rows_apply (x : Vec Ideal S1x2048x128 .bf16) (r : Fin 2048) (d : Fin 128) :
    k0_pay3 (F := Ideal) x (ix2 r d) = x (ix3 0 r d) ∧ k0_pay4 (F := Ideal) x (ix2 r d) = x (ix3 0 r d) := by
  constructor
  · pointwise [k0_pay3]
  · pointwise [k0_pay4]

/-- A load of all of a block. -/
theorem ldx (x : Vec Ideal S1x2048x128 .bf16) (inb) : View.ld x (Rect.unit (s := S1x2048x128) ![0, 0, 0] S1x2048x128.size inb) = x :=
  View.ld_unit_zero (by funext a; match a with | ⟨0, _⟩ => rfl | ⟨1, _⟩ => rfl | ⟨2, _⟩ => rfl) _ _

section
variable (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x256x768 .f32) (harg5 : arg5.IsWhole) (arg6 : Memref sig .tc .vmem S1x2048x128 .bf16) (harg6 : arg6.IsWhole) (arg7 : Memref sig .tc .vmem S2560x128 .bf16) (harg7 : arg7.IsWhole) (arg8 : Memref sig .tc .vmem S2560x128 .bf16) (harg8 : arg8.IsWhole)
variable (𝒱 : Variants) (bd : Option 𝒱.V) (v18 : IVec S256x768 32) (X2 : BufTy.Contents (Elt Ideal) arg2.view.ty) (X5 : BufTy.Contents (Elt Ideal) arg5.view.ty) (X7 : BufTy.Contents (Elt Ideal) arg7.view.ty) (X8 : BufTy.Contents (Elt Ideal) arg8.view.ty)

/-- A trip's one store. -/
theorem trip_pieces (k : Fin k0_t1_loop.trips) :
    (trip_k0_t1 (F := Ideal) 𝒱 c bd i arg2 harg2 arg3 harg3 arg4 harg4 arg5 harg5 arg6 harg6 arg7 harg7 arg8 harg8 v18 X2 X5 X7 X8 k).1
      = [⟨Rect.unit (s := S1x2048x128) (k0_off1 k) S1x256x128.size (k0_off1_inb k),
          k0_pay5 (F := Ideal) (View.ld (arg8.view.read (Elt Ideal) X8) (Rect.unit (s := S2560x128) (k0_off2 k) S768x128.size (k0_off2_inb k))) (k0_pay7 v18 0#32 1#32 k)
            (k0_pay8 (F := Ideal) v18 0#32 1#32 k (View.ld (arg2.view.read (Elt Ideal) X2) (Rect.unit (s := S1x2048x128) (k0_off1 k) S1x256x128.size (k0_off1_inb k)))
              (View.ld (arg7.view.read (Elt Ideal) X7) (Rect.unit (s := S2560x128) (k0_off2 k) S768x128.size (k0_off2_inb k)))
              (View.ld (arg8.view.read (Elt Ideal) X8) (Rect.unit (s := S2560x128) (k0_off2 k) S768x128.size (k0_off2_inb k)))
              (View.ld (arg5.view.read (Elt Ideal) X5) (Rect.unit (s := S2x256x768) ![0, 0, 0] S1x256x768.size inb_S2x256x768_S1x256x768_0_0_0)))
            (k0_pay9 (F := Ideal) (View.ld (arg2.view.read (Elt Ideal) X2) (Rect.unit (s := S1x2048x128) (k0_off1 k) S1x256x128.size (k0_off1_inb k)))
              (View.ld (arg7.view.read (Elt Ideal) X7) (Rect.unit (s := S2560x128) (k0_off2 k) S768x128.size (k0_off2_inb k))))
            (View.ld (arg5.view.read (Elt Ideal) X5) (Rect.unit (s := S2x256x768) ![1, 0, 0] S1x256x768.size inb_S2x256x768_S1x256x768_1_0_0))⟩] := by
  unfold trip_k0_t1
  rfl

theorem off2_eq : ∀ k : Fin k0_t1_loop.trips, k0_off2 k = ![256 * k.val, 0] := by decide +kernel
theorem off1_eq : ∀ k : Fin k0_t1_loop.trips, k0_off1 k = ![0, 256 * k.val, 0] := by decide +kernel
theorem trips_lt (k : Fin k0_t1_loop.trips) : k.val < 8 := Nat.lt_of_lt_of_le k.isLt k0_t1_abs.2.1

/-- A trip's load of queries. -/
theorem ldq (x : Vec Ideal S1x2048x128 .bf16) (k : Fin k0_t1_loop.trips) (r : Fin 256) (d : Fin 128) :
    View.ld x (Rect.unit (s := S1x2048x128) (k0_off1 k) S1x256x128.size (k0_off1_inb k)) (ix3 0 r d)
      = x (ix3 0 ⟨256 * k.val + r.val, by have := trips_lt k; omega⟩ d) := by
  refine congrArg x (funext fun a => Fin.ext ?_)
  match a with
  | ⟨0, _⟩ => show k0_off1 k 0 + 1 * 0 = 0; rw [off1_eq]; rfl
  | ⟨1, _⟩ => show k0_off1 k 1 + 1 * r.val = 256 * k.val + r.val; rw [off1_eq]; show 256 * k.val + 1 * r.val = _; omega
  | ⟨2, _⟩ => show k0_off1 k 2 + 1 * d.val = d.val; rw [off1_eq]; show 0 + 1 * d.val = _; omega

/-- A trip's load of a scratch. -/
theorem ldk (x : Vec Ideal S2560x128 .bf16) (k : Fin k0_t1_loop.trips) (r : Fin 768) (d : Fin 128) :
    View.ld x (Rect.unit (s := S2560x128) (k0_off2 k) S768x128.size (k0_off2_inb k)) (ix2 r d)
      = x (ix2 ⟨256 * k.val + r.val, by have := trips_lt k; omega⟩ d) := by
  refine congrArg x (funext fun a => Fin.ext ?_)
  match a with
  | ⟨0, _⟩ => show k0_off2 k 0 + 1 * r.val = 256 * k.val + r.val; rw [off2_eq]; show 256 * k.val + 1 * r.val = _; omega
  | ⟨1, _⟩ => show k0_off2 k 1 + 1 * d.val = d.val; rw [off2_eq]; show 0 + 1 * d.val = _; omega

/-- A load of one head's bias. -/
theorem ldb (x : Vec Ideal S2x256x768 .f32) (h : Fin 2) (n : Nat) (hn : n = h.val) (inb) (r : Fin 256) (k : Fin 768) :
    View.ld x (Rect.unit (s := S2x256x768) ![n, 0, 0] S1x256x768.size inb) (ix3 0 r k) = x (ix3 h r k) := by
  refine congrArg x (funext fun a => Fin.ext ?_)
  match a with
  | ⟨0, _⟩ => show n + 1 * 0 = h.val; omega
  | ⟨1, _⟩ => show 0 + 1 * r.val = r.val; omega
  | ⟨2, _⟩ => show 0 + 1 * k.val = k.val; omega

/-- A trip's store, element by element, is its rows of the block's result. -/
theorem trip_blk (hv : ∀ r k, v18 (ix2 r k) = BitVec.ofNat 32 k.val) (x0 x1 x2 : Vec Ideal S1x2048x128 .bf16) (x3 : Vec Ideal S2x256x768 .f32)
    (q : Vec Ideal S1x256x128 .bf16) (kk vv : Vec Ideal S768x128 .bf16) (b0 b1 : Vec Ideal S1x256x768 .f32) (k : Fin k0_t1_loop.trips)
    (hq : ∀ r d, q (ix3 0 r d) = x0 (ix3 0 ⟨256 * k.val + r.val, by have := trips_lt k; omega⟩ d))
    (hk : ∀ j d, kk (ix2 j d) = pad x1 (256 * k.val + j.val) d) (hw : ∀ j d, vv (ix2 j d) = pad x2 (256 * k.val + j.val) d)
    (h0 : ∀ r j, b0 (ix3 0 r j) = x3 (ix3 0 r j)) (h1 : ∀ r j, b1 (ix3 0 r j) = x3 (ix3 1 r j)) (r : Fin 256) (d : Fin 128) :
    k0_pay5 (F := Ideal) vv (k0_pay7 v18 0#32 1#32 k) (k0_pay8 (F := Ideal) v18 0#32 1#32 k q kk vv b0) (k0_pay9 (F := Ideal) q kk) b1 (ix3 0 r d)
      = blkO x0 x1 x2 x3 ⟨256 * k.val + r.val, by have := trips_lt k; omega⟩ d := by
  refine (trip_apply v18 hv k _ _ _ _ _ r d (by omega)).trans ?_
  have e1 : (256 * k.val + r.val) / 256 = k.val := by omega
  have e2 : (256 * k.val + r.val) % 256 = r.val := by omega
  unfold blkO
  simp only [hq, hk, hw, e1, e2]
  refine congrArg (late · _) (congrArg (sel k.val) (funext fun j => congrArg (HAdd.hAdd (α := EReal) (β := EReal) (γ := EReal) _) ?_))
  by_cases h : d.val < 64
  · rw [if_pos h, h0]; exact congrArg (fun a => x3 (ix3 a r j)) (Fin.ext (by show 0 = d.val / 64; omega))
  · rw [if_neg h, h1]; exact congrArg (fun a => x3 (ix3 a r j)) (Fin.ext (by show 1 = d.val / 64; omega))

/-- Where a trip's store lies. -/
theorem emb_off1 (k : Fin k0_t1_loop.trips) (r : Fin 256) (d : Fin 128) :
    (Rect.unit (s := S1x2048x128) (k0_off1 k) S1x256x128.size (k0_off1_inb k)).emb (ix3 0 r d)
      = (ix3 0 ⟨256 * k.val + r.val, by have := trips_lt k; omega⟩ d : S1x2048x128.Idx) := funext fun a => Fin.ext (by
    match a with
    | ⟨0, _⟩ => show k0_off1 k 0 + 1 * 0 = 0; rw [off1_eq]; rfl
    | ⟨1, _⟩ => show k0_off1 k 1 + 1 * r.val = 256 * k.val + r.val; rw [off1_eq]; show 256 * k.val + 1 * r.val = _; omega
    | ⟨2, _⟩ => show k0_off1 k 2 + 1 * d.val = d.val; rw [off1_eq]; show 0 + 1 * d.val = _; omega)

/-- A trip's store is its rows of the block's result. -/
theorem trip_G (hv : ∀ r k, v18 (ix2 r k) = BitVec.ofNat 32 k.val) (x0 x1 x2 : Vec Ideal S1x2048x128 .bf16) (x3 : Vec Ideal S2x256x768 .f32)
    (h2 : arg2.view.read (Elt Ideal) X2 = x0) (h5 : arg5.view.read (Elt Ideal) X5 = x3)
    (h7 : ∀ k d, arg7.view.read (Elt Ideal) X7 (ix2 k d) = pad x1 k.val d) (h8 : ∀ k d, arg8.view.read (Elt Ideal) X8 (ix2 k d) = pad x2 k.val d)
    (k : Fin k0_t1_loop.trips) :
    ∀ p ∈ (trip_k0_t1 (F := Ideal) 𝒱 c bd i arg2 harg2 arg3 harg3 arg4 harg4 arg5 harg5 arg6 harg6 arg7 harg7 arg8 harg8 v18 X2 X5 X7 X8 k).1,
      ∀ x : p.1.shape.Idx, p.2 x = G x0 x1 x2 x3 (p.1.emb x) := by
  intro p hp
  rw [trip_pieces, List.mem_singleton] at hp
  subst hp
  intro (x : S1x256x128.Idx)
  obtain ⟨r, d, rfl⟩ : ∃ (r : Fin 256) (d : Fin 128), x = ix3 0 r d := ⟨x 1, x 2, by
    refine (eq_ix3 x).trans (congrArg (ix3 · (x 1) (x 2)) (Fin.ext ?_)); have : (x 0).val < 1 := (x 0).isLt; show (x 0).val = 0; omega⟩
  refine Eq.trans ?_ (congrArg (G x0 x1 x2 x3) (emb_off1 k r d).symm)
  refine trip_blk v18 hv x0 x1 x2 x3 _ _ _ _ _ k ?_ ?_ ?_ ?_ ?_ r d
  · intro r d; rw [h2]; exact ldq x0 k r d
  · intro j d; exact (ldk _ k j d).trans (h7 _ _)
  · intro j d; exact (ldk _ k j d).trans (h8 _ _)
  · intro r j; rw [h5]; exact ldb x3 0 0 rfl _ r j
  · intro r j; rw [h5]; exact ldb x3 1 1 rfl _ r j

/-- The stores of the trips before `n` are rows of the block's result. -/
theorem pb_G (hv : ∀ r k, v18 (ix2 r k) = BitVec.ofNat 32 k.val) (x0 x1 x2 : Vec Ideal S1x2048x128 .bf16) (x3 : Vec Ideal S2x256x768 .f32)
    (h2 : arg2.view.read (Elt Ideal) X2 = x0) (h5 : arg5.view.read (Elt Ideal) X5 = x3)
    (h7 : ∀ k d, arg7.view.read (Elt Ideal) X7 (ix2 k d) = pad x1 k.val d) (h8 : ∀ k d, arg8.view.read (Elt Ideal) X8 (ix2 k d) = pad x2 k.val d) :
    ∀ n ≤ k0_t1_loop.trips, ∀ p ∈ pb_k0_t1 (F := Ideal) 𝒱 c bd i arg2 harg2 arg3 harg3 arg4 harg4 arg5 harg5 arg6 harg6 arg7 harg7 arg8 harg8 v18 X2 X5 X7 X8 n,
      ∀ x : p.1.shape.Idx, p.2 x = G x0 x1 x2 x3 (p.1.emb x) := by
  intro n
  induction n with
  | zero => intro _ p hp; exact absurd hp List.not_mem_nil
  | succ n ih =>
    intro hn p hp
    rw [pb_k0_t1_succ (k := ⟨n, hn⟩)] at hp
    rcases List.mem_append.1 hp with hp | hp
    · exact trip_G c i arg2 harg2 arg3 harg3 arg4 harg4 arg5 harg5 arg6 harg6 arg7 harg7 arg8 harg8 𝒱 bd v18 X2 X5 X7 X8 hv x0 x1 x2 x3 h2 h5 h7 h8 ⟨n, hn⟩ p hp
    · exact ih (Nat.le_of_succ_le hn) p hp

/-- A scratch after its two stores. -/
theorem scratch_read (v : Memref sig .tc .vmem S2560x128 .bf16) (f : BufTy.Contents (Elt Ideal) v.view.ty) (x : Vec Ideal S1x2048x128 .bf16)
    (w : FVec Ideal S2048x128 .bf16) (hw : ∀ r d, w (ix2 r d) = x (ix3 0 r d)) (z : FVec Ideal S512x128 .bf16) (hz : ∀ j, z j = 0) (i1) (i2) (k : Fin 2560) (d : Fin 128) :
    v.view.read (Elt Ideal) (v.view.writes (Elt Ideal) f
      [⟨Rect.unit (s := S2560x128) ![512, 0] S2048x128.size i1, w⟩, ⟨Rect.unit (s := S2560x128) ![0, 0] S512x128.size i2, z⟩]) (ix2 k d) = pad x k.val d := by
  unfold pad
  have hk := k.isLt
  by_cases h : 512 ≤ k.val
  · rw [dif_pos ⟨h, hk⟩, ← hw]
    refine View.read_writes_cons_hit_of_coords (v.view) f (Rect.unit (s := S2560x128) ![512, 0] S2048x128.size i1) w _ (ix2 ⟨k.val - 512, by omega⟩ d : S2048x128.Idx) _ fun a => ?_
    match a with
    | ⟨0, _⟩ => show k.val = 512 + 1 * (k.val - 512); omega
    | ⟨1, _⟩ => show d.val = 0 + 1 * d.val; omega
  · rw [dif_neg (fun hh => h hh.1)]
    rw [View.read_writes_cons_miss_of_axis (v.view) f _ _ (ix2 k d) 0 512 2048 rfl rfl rfl (Or.inl (by show k.val < 512; omega))]
    refine (View.read_writes_cons_hit_of_coords (v.view) f (Rect.unit (s := S2560x128) ![0, 0] S512x128.size i2) z _ (ix2 ⟨k.val, by omega⟩ d : S512x128.Idx) _ fun a => ?_).trans (hz _)
    match a with
    | ⟨0, _⟩ => show k.val = 0 + 1 * k.val; omega
    | ⟨1, _⟩ => show d.val = 0 + 1 * d.val; omega

/-- The block the kernel writes. -/
theorem out_eq (x0 x1 x2 : Vec Ideal S1x2048x128 .bf16) (x3 : Vec Ideal S2x256x768 .f32) :
    out0_A_4 (F := Ideal) c i arg2 harg2 arg3 harg3 arg4 harg4 arg5 harg5 arg6 harg6 arg7 harg7 arg8 harg8 x0 x1 x2 x3 = G x0 x1 x2 x3 := by
  funext y
  unfold out0_A_4
  refine View.read_writes_apply_of_pieces _ _ (G x0 x1 x2 x3) _ ?_ y (cover0_A_4 (F := Ideal) c i arg2 harg2 arg3 harg3 arg4 harg4 arg5 harg5 arg6 harg6 arg7 harg7 arg8 harg8 x0 x1 x2 x3 y)
  unfold kernelRun0_A
  refine pb_G c i arg2 harg2 arg3 harg3 arg4 harg4 arg5 harg5 arg6 harg6 arg7 harg7 arg8 harg8 _ _ _ _ _ _ _ ?_ x0 x1 x2 x3 (harg2.read_unread _) (harg5.read_unread _) ?_ ?_ _ le_rfl
  · intro r k; unfold kernelRun0_A.sl.v18; pointwise
  · intro k d
    exact scratch_read arg7 _ x1 _ (fun r d => (rows_apply _ r d).1.trans (congrFun ((congrArg (View.ld · _) (harg3.read_unread x1)).trans (ldx x1 _)) _)) _ (fun j => (zeros_apply j).1) _ _ k d
  · intro k d
    exact scratch_read arg8 _ x2 _ (fun r d => (rows_apply _ r d).2.trans (congrFun ((congrArg (View.ld · _) (harg4.read_unread x2)).trans (ldx x2 _)) _)) _ (fun j => (zeros_apply j).2) _ _ k d

end

end Cert.Proof.AttBody

end
-- ==== Proof.AttRef.lean ====
module

public import proofs.«01_k».proof.Proof.AttMath
public import proofs.«01_k».proof.Proof.Gen.AttRefIdeal.Run
public import proofs.«01_k».proof.Proof.Gen.AttRefIdeal.Read
public import Idealize.ShloMosaic.Lib.Pointwise
public import Idealize.ShloMosaic.Lib.MatmulPlain

@[expose] public section

noncomputable section

namespace Cert.Proof.AttRef

open Idealize.ShloMosaic
open Cert.Proof.AttMath

/-! ## Integers of the host -/

/-- Floor division by 64, as the host computes it on a word. -/
def fd (x : BitVec 32) : BitVec 32 :=
  Scalar.select
    (IntOp.andi
      (IntOp.cmpi CmpIPredicate.ne (if x = 0 then (0 : BitVec 32) else if x.msb = true then -1 else 1) (if (64#32) = 0 then (0 : BitVec 32) else if BitVec.msb (64#32) = true then -1 else 1))
      (IntOp.cmpi CmpIPredicate.ne (IntOp.remsi ArithUnit.host x 64#32) 0#32))
    (IntOp.subi (IntOp.divsi ArithUnit.host x 64#32) 1#32) (IntOp.divsi ArithUnit.host x 64#32)

theorem fd_eq : ∀ n : Fin 2048, fd (BitVec.ofNat 32 n.val) = BitVec.ofNat 32 (n.val / 64) := by decide +kernel

/-- A distance clipped to ±128, moved to start at zero. -/
def clip (x : BitVec 32) : BitVec 32 := IntOp.addi (IntOp.minsi 128#32 (IntOp.maxsi 4294967168#32 x)) 128#32

/-- The table's column of a distance, as a word. -/
def col (x : BitVec 32) : BitVec 32 :=
  Scalar.select (IntOp.cmpi CmpIPredicate.slt (clip x) 0#32) (IntOp.addi (clip x) 257#32) (clip x)

/-- The table's column of a distance. -/
def pos (x : BitVec 32) : Fin 257 := ⟨min (col x).toInt.toNat 256, by omega⟩

/-- Whether a difference of two small numbers lies between 0 and 8. -/
def band (a b : BitVec 32) : BitVec 1 := IntOp.andi (IntOp.cmpi CmpIPredicate.sge (IntOp.subi a b) 0#32) (IntOp.cmpi CmpIPredicate.sle (IntOp.subi a b) 8#32)

theorem band_eq : ∀ a b : Fin 48, band (BitVec.ofNat 32 a.val) (BitVec.ofNat 32 b.val) = BitVec.ofBool (decide (b.val ≤ a.val ∧ a.val ≤ b.val + 8)) := by decide +kernel

/-- A choice by such a word. -/
theorem select_ofBool {α : Type} (p : Prop) [Decidable p] (x y : α) : Scalar.select (BitVec.ofBool (decide p)) x y = if p then x else y := by
  by_cases h : p <;> simp [Scalar.select, h]

/-! ## The gather of a bias table -/

/-- The dimension numbers of a gather of columns of a table of 16 rows. -/
abbrev colDims (R C : Nat) (wf : GatherDims.WF ⟨2, ![16, 257]⟩ ⟨3, ![R, C, 1]⟩ ⟨3, ![16, R, C]⟩ [0] [1] [] [1] [] 2 ![16, 1]) :
    GatherDims ⟨2, ![16, 257]⟩ ⟨3, ![R, C, 1]⟩ ⟨3, ![16, R, C]⟩ where
  offsetDims := [0]
  collapsedSliceDims := [1]
  operandBatchingDims := []
  startIndicesBatchingDims := []
  startIndexMap := [1]
  indexVectorDim := 2
  sliceSizes := ![16, 1]
  wf := wf

/-- Element `(h, i, j)` of the gathered table: row `h`, the column named at `(i, j)`. -/
theorem gather_col {α : Type} {R C : Nat} (wf : GatherDims.WF ⟨2, ![16, 257]⟩ ⟨3, ![R, C, 1]⟩ ⟨3, ![16, R, C]⟩ [0] [1] [] [1] [] 2 ![16, 1])
    (x : (⟨2, ![16, 257]⟩ : Shape).Idx → α) (idx : IVec ⟨3, ![R, C, 1]⟩ 32) (h : Fin 16) (i : Fin R) (j : Fin C) :
    Host.gather (colDims R C wf) x idx (ix3 h i j) = x (ix2 h ⟨min (idx (ix3 i j 0)).toInt.toNat 256, by omega⟩) := by
  unfold Host.gather
  congr 1
  funext a
  refine Fin.ext ?_
  show (colDims R C wf).start (ix3 h i j) idx a + (colDims R C wf).batchCoord (ix3 h i j) a + (colDims R C wf).offCoord (ix3 h i j) a = _
  rw [GatherDims.batchCoord_eq_zero _ _ _ List.not_mem_nil]
  match a with
  | ⟨0, _⟩ =>
    have e : (colDims R C wf).start (ix3 h i j) idx (0 : Fin 2) = 0 := by
      unfold GatherDims.start
      exact dif_neg (by show (0 : Fin 2) ∉ [1]; decide)
    show (colDims R C wf).start (ix3 h i j) idx (0 : Fin 2) + 0 + (colDims R C wf).offCoord (ix3 h i j) (0 : Fin 2) = h.val
    rw [e]
    unfold GatherDims.offCoord
    rw [dif_pos ((GatherDims.mem_sKept _ _).mpr ⟨(by decide : (0 : Fin 2) ∉ [1]), List.not_mem_nil⟩)]
    show 0 + 0 + h.val = h.val
    omega
  | ⟨1, _⟩ =>
    show (colDims R C wf).start (ix3 h i j) idx (1 : Fin 2) + 0 + (colDims R C wf).offCoord (ix3 h i j) (1 : Fin 2) = min _ 256
    rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R C wf).startIndexMap from List.mem_singleton.mpr rfl)]
    have hsi : (colDims R C wf).siIdx (ix3 h i j) ⟨List.idxOf (1 : Fin 2) (colDims R C wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl

/-! ## The reference -/

open Cert.AttRefIdeal Cert.AttRefIdeal.Gen Cert.AttRefIdeal.Read

theorem v25_apply (t : Fin 2048) : val_main_v25 (F := Ideal) (ix2 t 0) = BitVec.ofNat 32 (t.val / 64) := by
  rw [← fd_eq]
  pointwise [val_main_v25, val_main_v24, val_main_v7, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_c, val_main_call1_c_0, val_main_c_4]
  rfl

theorem v27_apply (t : Fin 2048) : val_main_v27 (F := Ideal) (ix2 0 t) = BitVec.ofNat 32 (t.val / 64) := by
  rw [← fd_eq]
  pointwise [val_main_v27, val_main_v26, val_main_v7, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_call2_v12, val_main_call2_v13, val_main_call2_c, val_main_call2_c_0, val_main_c_5]
  rfl

/-- The band: a position sees its own block of 64 and the eight before. -/
theorem v35_apply (t u : Fin 2048) : val_main_v35 (F := Ideal) (ix2 t u) = BitVec.ofBool (decide (u.val / 64 ≤ t.val / 64 ∧ t.val / 64 ≤ u.val / 64 + 8)) := by
  refine Eq.trans ?_ (band_eq ⟨t.val / 64, by omega⟩ ⟨u.val / 64, by omega⟩)
  show _ = band (BitVec.ofNat 32 (t.val / 64)) (BitVec.ofNat 32 (u.val / 64))
  rw [← v25_apply, ← v27_apply]
  pointwise [val_main_v35, val_main_v34, val_main_v33, val_main_v32, val_main_v31, val_main_v30, val_main_v29, val_main_v28, val_main_c_6, val_main_c_7, band]

theorem v21_apply (t u : Fin 2048) : val_main_v21 (F := Ideal) (ix2 t u) = col (IntOp.subi (BitVec.ofNat 32 t.val) (BitVec.ofNat 32 u.val)) := by
  pointwise [val_main_v7, val_main_v8, val_main_v9, val_main_v10, val_main_v11, val_main_v12, val_main_c, val_main_c_0, val_main_call0_v0, val_main_call0_v1, val_main_call0_v2, val_main_call0_v3, val_main_call0_v4, val_main_v14, val_main_c_1, val_main_v15, val_main_v16, val_main_c_2, val_main_v17, val_main_v18, val_main_c_3, val_main_v19, val_main_v20, val_main_v21]
  rfl

theorem v22_apply (t u : Fin 2048) : val_main_v22 (F := Ideal) (ix3 t u 0) = val_main_v21 (F := Ideal) (ix2 t u) := by
  pointwise [val_main_v22]

theorem v13_apply (x1 : Vec Ideal S1x16x257 .f32) (h : Fin 16) (k : Fin 257) : val_main_v13 (F := Ideal) x1 (ix2 h k) = x1 (ix3 0 h k) := by
  pointwise [val_main_v13]

/-- The bias of a pair of positions. -/
theorem v23_apply (x1 : Vec Ideal S1x16x257 .f32) (h : Fin 16) (t u : Fin 2048) :
    val_main_v23 (F := Ideal) x1 (ix3 h t u) = x1 (ix3 0 h (pos (IntOp.subi (BitVec.ofNat 32 t.val) (BitVec.ofNat 32 u.val)))) := by
  refine (gather_col _ _ _ h t u).trans ?_
  rw [v13_apply]
  refine congrArg (fun a => x1 (ix3 0 h a)) (Fin.ext ?_)
  show min (val_main_v22 (F := Ideal) (ix3 t u 0)).toInt.toNat 256 = _
  rw [v22_apply, v21_apply]
  rfl

/-- The scores of a head: scaled product plus bias inside the band, minus infinity outside. -/
def score (x0 : Vec Ideal S16x2048x3072 .bf16) (x1 : Vec Ideal S1x16x257 .f32) (b : Fin 16) (h : Fin 16) (t u : Fin 2048) : EReal :=
  if u.val / 64 ≤ t.val / 64 ∧ t.val / 64 ≤ u.val / 64 + 8 then
    (∑ x : Fin 64, x0 (ix3 b t ⟨h.val * 64 + x.val, by omega⟩) * x0 (ix3 b u ⟨1024 + (h.val * 64 + x.val), by omega⟩)) * Ideal.ofBits .f32 0x3E000000#32
      + x1 (ix3 0 h (pos (IntOp.subi (BitVec.ofNat 32 t.val) (BitVec.ofNat 32 u.val))))
  else ⊥

theorem v42_apply (x0 : Vec Ideal S16x2048x3072 .bf16) (x1 : Vec Ideal S1x16x257 .f32) (b : Fin 16) (h : Fin 16) (t u : Fin 2048) :
    val_main_v42 (F := Ideal) x0 x1 (ix4 b h t u) = score x0 x1 b h t u := by
  have e : val_main_v42 (F := Ideal) x0 x1 (ix4 b h t u) = Scalar.select (val_main_v35 (F := Ideal) (ix2 t u))
      ((∑ x : Fin 64, x0 (ix3 b t ⟨h.val * 64 + x.val, by omega⟩) * x0 (ix3 b u ⟨1024 + (h.val * 64 + x.val), by omega⟩)) * Ideal.ofBits .f32 0x3E000000#32
        + val_main_v23 (F := Ideal) x1 (ix3 h t u)) (Ideal.ofBits .f32 0xFF800000#32) := by
    pointwise [val_main_v42, val_main_call3_v0, val_main_call3_v1, val_main_call3_v2, val_main_cst_8, val_main_v41, val_main_v40, val_main_v39, val_main_v38, val_main_v37, val_main_cst, val_main_v36, val_main_v5, val_main_v4, val_main_v2, val_main_v1, val_main_v0]
    rfl
  rw [e, v35_apply, select_ofBool, v23_apply, ninf]
  rfl

/-- The maximum over the last axis, element by element. -/
theorem rowmax_apply (y : FVec Ideal S16x16x2048x2048 .f32) (z : FVec Ideal S_ .f32) (b : Fin 16) (h : Fin 16) (t : Fin 2048) :
    (Host.reduce FloatOps.maximumf y z reducesTo_S16x16x2048x2048_S16x16x2048_d3 h_S_ : FVec Ideal S16x16x2048 .f32) (ix3 b h t)
      = Finset.fold max (z (Shape.Idx.first h_S_)) (fun u : Fin 2048 => y (ix4 b h t u)) Finset.univ := by
  pointwise

/-- The row maxima. -/
theorem v45_apply (x0 : Vec Ideal S16x2048x3072 .bf16) (x1 : Vec Ideal S1x16x257 .f32) (b : Fin 16) (h : Fin 16) (t : Fin 2048) :
    val_main_v45 (F := Ideal) x0 x1 (ix3 b h t) = top (score x0 x1 b h t) := by
  have e : val_main_v43 (F := Ideal) x0 x1 (ix3 b h t) = top (score x0 x1 b h t) := by
    refine (rowmax_apply (val_main_v42 (F := Ideal) x0 x1) (val_main_cst_9 (F := Ideal)) b h t).trans ?_
    have e9 : val_main_cst_9 (F := Ideal) (Shape.Idx.first h_S_) = ⊥ := ninf
    rw [e9]
    simp only [v42_apply]
    rfl
  rw [val_main_v45_apply, e, val_main_v44_apply]
  have e10 : val_main_cst_10 (F := Ideal) (idx_main_v44 (ix3 b h t)) = ⊥ := ninf
  rw [e10]
  exact max_eq_right bot_le

/-- The index of a row's one entry, whatever the column asked for. -/
theorem idx47 (b : Fin 16) (h : Fin 16) (t u : Fin 2048) : idx_main_v46 (idx_main_v47 (ix4 b h t u)) = ix3 b h t := by
  funext a; match a with | ⟨0, _⟩ => rfl | ⟨1, _⟩ => rfl | ⟨2, _⟩ => rfl

theorem idx52 (b : Fin 16) (h : Fin 16) (t u : Fin 2048) : idx_main_v51 (idx_main_v52 (ix4 b h t u)) = ix3 b h t := by
  funext a; match a with | ⟨0, _⟩ => rfl | ⟨1, _⟩ => rfl | ⟨2, _⟩ => rfl

/-- The exponentials. -/
theorem v49_apply (x0 : Vec Ideal S16x2048x3072 .bf16) (x1 : Vec Ideal S1x16x257 .f32) (b : Fin 16) (h : Fin 16) (t u : Fin 2048) :
    val_main_v49 (F := Ideal) x0 x1 (ix4 b h t u) = Ideal.exp (score x0 x1 b h t u - top (score x0 x1 b h t)) := by
  rw [val_main_v49_apply, val_main_v48_apply, val_main_v47_apply, val_main_v46_apply, idx47, v45_apply, v42_apply]
  rfl

/-- The row masses. -/
theorem v50_apply (x0 : Vec Ideal S16x2048x3072 .bf16) (x1 : Vec Ideal S1x16x257 .f32) (b : Fin 16) (h : Fin 16) (t : Fin 2048) :
    val_main_v50 (F := Ideal) x0 x1 (ix3 b h t) = mass (score x0 x1 b h t) := by
  have e : val_main_v50 (F := Ideal) x0 x1 (ix3 b h t) = ∑ u : Fin 2048, val_main_v49 (F := Ideal) x0 x1 (ix4 b h t u) := by
    rw [val_main_v50_apply]
    have e0 : val_main_cst_11 (F := Ideal) (Shape.Idx.first h_S_) = 0 := Ideal.ofBits_zero_f32
    rw [e0, zero_add]
    refine Finset.sum_congr rfl fun u _ => congrArg _ ?_
    funext a; match a with | ⟨0, _⟩ => rfl | ⟨1, _⟩ => rfl | ⟨2, _⟩ => rfl | ⟨3, _⟩ => rfl
  rw [e]
  unfold mass
  simp only [v49_apply]

/-- The weights. -/
theorem v53_apply (x0 : Vec Ideal S16x2048x3072 .bf16) (x1 : Vec Ideal S1x16x257 .f32) (b : Fin 16) (h : Fin 16) (t u : Fin 2048) :
    val_main_v53 (F := Ideal) x0 x1 (ix4 b h t u) = Ideal.div (Ideal.exp (score x0 x1 b h t u - top (score x0 x1 b h t))) (mass (score x0 x1 b h t)) := by
  rw [val_main_v53_apply, val_main_v52_apply, val_main_v51_apply, idx52, v49_apply, v50_apply]
  rfl

/-- The values. -/
theorem v6_apply (x0 : Vec Ideal S16x2048x3072 .bf16) (b : Fin 16) (u : Fin 2048) (h : Fin 16) (d : Fin 64) :
    val_main_v6 (F := Ideal) x0 (ix4 b u h d) = x0 (ix3 b u ⟨2048 + (h.val * 64 + d.val), by omega⟩) := by
  pointwise [val_main_v6, val_main_v3, val_main_v0]

/-- The averages. -/
theorem v54_apply (x0 : Vec Ideal S16x2048x3072 .bf16) (x1 : Vec Ideal S1x16x257 .f32) (b : Fin 16) (h : Fin 16) (d : Fin 64) (t : Fin 2048) :
    val_main_v54 (F := Ideal) x0 x1 (ix4 b h d t) = soft (score x0 x1 b h t) (fun u => x0 (ix3 b u ⟨2048 + (h.val * 64 + d.val), by omega⟩)) := by
  have e : val_main_v54 (F := Ideal) x0 x1 (ix4 b h d t) = ∑ u : Fin 2048, x0 (ix3 b u ⟨2048 + (h.val * 64 + d.val), by omega⟩) * val_main_v53 (F := Ideal) x0 x1 (ix4 b h t u) := by
    rw [val_main_v54_apply]
    refine Finset.sum_congr rfl fun u _ => congrArg₂ _ ?_ (congrArg _ ?_)
    · refine Eq.trans (congrArg _ (?_ : _ = ix4 b u h d)) (v6_apply x0 b u h d)
      funext a; match a with | ⟨0, _⟩ => rfl | ⟨1, _⟩ => rfl | ⟨2, _⟩ => rfl | ⟨3, _⟩ => rfl
    · funext a; match a with | ⟨0, _⟩ => rfl | ⟨1, _⟩ => rfl | ⟨2, _⟩ => rfl | ⟨3, _⟩ => rfl
  rw [e]
  unfold soft
  simp only [v53_apply]

/-- The reference's result, element by element. -/
theorem v57_apply (x0 : Vec Ideal S16x2048x3072 .bf16) (x1 : Vec Ideal S1x16x257 .f32) (b : Fin 16) (t : Fin 2048) (d : Fin 1024) :
    val_main_v57 (F := Ideal) x0 x1 (ix3 b t d)
      = soft (score x0 x1 b ⟨d.val / 64, by omega⟩ t) (fun u => x0 (ix3 b u ⟨2048 + d.val, by omega⟩)) := by
  have e : val_main_v57 (F := Ideal) x0 x1 (ix3 b t d) = val_main_v54 (F := Ideal) x0 x1 (ix4 b ⟨d.val / 64, by omega⟩ ⟨d.val % 64, Nat.mod_lt _ (by decide)⟩ t) := by
    rw [val_main_v57_apply, val_main_v56_apply, val_main_v55_apply]
    show val_main_v54 (F := Ideal) x0 x1 (idx_main_v55 (idx_main_v56 (ix3 b t d))) = _
    refine congrArg _ (funext fun a => Fin.ext ?_)
    have hb := b.isLt
    have ht := t.isLt
    have hd := d.isLt
    match a with
    | ⟨0, _⟩ => show ((b.val * 2048 + t.val) * 1024 + d.val) / 2097152 = b.val; omega
    | ⟨1, _⟩ => show ((b.val * 2048 + t.val) * 1024 + d.val) / 64 % 16 = d.val / 64; omega
    | ⟨2, _⟩ => show ((b.val * 2048 + t.val) * 1024 + d.val) % 64 = d.val % 64; omega
    | ⟨3, _⟩ => show ((b.val * 2048 + t.val) * 1024 + d.val) / 1024 % 2048 = t.val; omega
  rw [e, v54_apply]
  have e2 : d.val / 64 * 64 + d.val % 64 = d.val := by omega
  simp only [e2]

end Cert.Proof.AttRef

end
-- ==== Proof.AttHost.lean ====
module

public import proofs.«01_k».proof.Proof.AttRef
public import proofs.«01_k».proof.Proof.Gen.AttIdeal.Value

@[expose] public section

noncomputable section

namespace Cert.Proof.AttHost

open Idealize.ShloMosaic Idealize.ShloMosaic.TcCoe Idealize.SL.Sem
open Cert.Proof.AttMath
open Cert.AttIdeal Cert.AttIdeal.Gen Cert.AttIdeal.Value

/-! ## The bias table the host builds for the kernel -/

/-- The row numbers 0…255, as a column. -/
def rows : IVec S256x1 32 := broadcastInDim S256x1 ![0] bcast_S256_S256x1_0 (iotaInDim S256 32 0)

/-- The key numbers 0…767, as a row. -/
def keys : IVec S1x768 32 := broadcastInDim S1x768 ![1] bcast_S768_S1x768_1 (iotaInDim S768 32 0)

/-- Row plus 512, minus key. -/
def dist : IVec S256x768 32 :=
  subi (broadcastInDim S256x768 ![0, 1] bcast_S256x1_S256x768_0_1 (addi rows (broadcastInDim S256x1 ![] bcast_S_S256x1 (constantI S_ 32 512#32))))
    (broadcastInDim S256x768 ![0, 1] bcast_S1x768_S256x768_0_1 keys)

/-- The number of the block of 64 of each row. -/
def rowBlk : IVec S256x1 32 :=
  select
    (andi (cmpi .ne (signi rows) (broadcastInDim S256x1 ![] bcast_S_S256x1 (signi (id (constantI S_ 32 64#32)))))
      (cmpi .ne (Host.remsi rows (broadcastInDim S256x1 ![] bcast_S_S256x1 (id (constantI S_ 32 64#32)))) (broadcastInDim S256x1 ![] bcast_S_S256x1 (constantI S_ 32 0#32))))
    (subi (Host.divsi rows (broadcastInDim S256x1 ![] bcast_S_S256x1 (id (constantI S_ 32 64#32)))) (broadcastInDim S256x1 ![] bcast_S_S256x1 (constantI S_ 32 1#32)))
    (Host.divsi rows (broadcastInDim S256x1 ![] bcast_S_S256x1 (id (constantI S_ 32 64#32))))

/-- The number of the block of 64 of each key. -/
def keyBlk : IVec S1x768 32 :=
  select
    (andi (cmpi .ne (signi keys) (broadcastInDim S1x768 ![] bcast_S_S1x768 (signi (id (constantI S_ 32 64#32)))))
      (cmpi .ne (Host.remsi keys (broadcastInDim S1x768 ![] bcast_S_S1x768 (id (constantI S_ 32 64#32)))) (broadcastInDim S1x768 ![] bcast_S_S1x768 (constantI S_ 32 0#32))))
    (subi (Host.divsi keys (broadcastInDim S1x768 ![] bcast_S_S1x768 (id (constantI S_ 32 64#32)))) (broadcastInDim S1x768 ![] bcast_S_S1x768 (constantI S_ 32 1#32)))
    (Host.divsi keys (broadcastInDim S1x768 ![] bcast_S_S1x768 (id (constantI S_ 32 64#32))))

/-- The difference of the block numbers, the row's moved by 8. -/
def gap : IVec S256x768 32 :=
  subi (broadcastInDim S256x768 ![0, 1] bcast_S256x1_S256x768_0_1 (addi rowBlk (broadcastInDim S256x1 ![] bcast_S_S256x1 (constantI S_ 32 8#32))))
    (broadcastInDim S256x768 ![0, 1] bcast_S1x768_S256x768_0_1 keyBlk)

/-- The pairs inside the band. -/
def inBand : IVec S256x768 1 :=
  andi (cmpi .sge gap (broadcastInDim S256x768 ![] bcast_S_S256x768 (constantI S_ 32 0#32)))
    (cmpi .sle gap (broadcastInDim S256x768 ![] bcast_S_S256x768 (constantI S_ 32 8#32)))

/-- The distance, clipped and moved to start at zero. -/
def shifted : IVec S256x768 32 :=
  addi (minsi (broadcastInDim S256x768 ![] bcast_S_S256x768 (id (constantI S_ 32 128#32)))
      (maxsi (broadcastInDim S256x768 ![] bcast_S_S256x768 (id (constantI S_ 32 4294967168#32))) dist))
    (broadcastInDim S256x768 ![] bcast_S_S256x768 (constantI S_ 32 128#32))

/-- The table's column of each pair. -/
def cols : IVec S256x768 32 :=
  select (cmpi .slt shifted (broadcastInDim S256x768 ![] bcast_S_S256x768 (constantI S_ 32 0#32)))
    (addi shifted (broadcastInDim S256x768 ![] bcast_S_S256x768 (constantI S_ 32 257#32))) shifted

/-- The whole table. -/
def tab (x1 : Vec Ideal S1x16x257 .f32) : Vec Ideal S16x256x768 .f32 :=
  select (broadcastInDim S16x256x768 ![0, 1, 2] bcast_S1x256x768_S16x256x768_0_1_2 (broadcastInDim S1x256x768 ![1, 2] bcast_S256x768_S1x256x768_1_2 inBand))
    (Host.gather gather_S16x257_S256x768x1_S16x256x768_0_1_n_n_1_2_161 (shapeCast S16x257 x1 shapeCasts_S1x16x257_S16x257)
      (broadcastInDim S256x768x1 ![0, 1] bcast_S256x768_S256x768x1_0_1 cols))
    (broadcastInDim S16x256x768 ![] bcast_S_S16x256x768 (id (constant (F := Ideal) S_ .f32 0xFF800000#32)))

theorem rowBlk_apply (r : Fin 256) : rowBlk (ix2 r 0) = BitVec.ofNat 32 (r.val / 64) := by
  refine Eq.trans ?_ (AttRef.fd_eq ⟨r.val, by omega⟩)
  pointwise [rowBlk, rows]
  rfl

theorem keyBlk_apply (k : Fin 768) : keyBlk (ix2 0 k) = BitVec.ofNat 32 (k.val / 64) := by
  refine Eq.trans ?_ (AttRef.fd_eq ⟨k.val, by omega⟩)
  pointwise [keyBlk, keys]
  rfl

/-- The pairs the table keeps. -/
theorem inBand_apply (r : Fin 256) (k : Fin 768) :
    inBand (ix2 r k) = BitVec.ofBool (decide (k.val / 64 ≤ r.val / 64 + 8 ∧ r.val / 64 + 8 ≤ k.val / 64 + 8)) := by
  refine Eq.trans ?_ (AttRef.band_eq ⟨r.val / 64 + 8, by omega⟩ ⟨k.val / 64, by omega⟩)
  have e : gap (ix2 r k) = IntOp.subi (BitVec.ofNat 32 (r.val / 64 + 8)) (BitVec.ofNat 32 (k.val / 64)) := by
    have e1 : BitVec.ofNat 32 (r.val / 64 + 8) = IntOp.addi (BitVec.ofNat 32 (r.val / 64)) 8#32 := BitVec.ofNat_add ..
    rw [e1, ← rowBlk_apply, ← keyBlk_apply]
    pointwise [gap]
  show _ = AttRef.band (BitVec.ofNat 32 (r.val / 64 + 8)) (BitVec.ofNat 32 (k.val / 64))
  unfold AttRef.band
  rw [← e]
  rfl

/-- The column of a pair, as a word. -/
theorem cols_apply (r : Fin 256) (k : Fin 768) :
    cols (ix2 r k) = AttRef.col (IntOp.subi (IntOp.addi (BitVec.ofNat 32 r.val) 512#32) (BitVec.ofNat 32 k.val)) := by
  pointwise [cols, shifted, dist, rows, keys]
  rfl

/-- The table read at a head, a row and a key. -/
theorem tab_apply (x1 : Vec Ideal S1x16x257 .f32) (h : Fin 16) (r : Fin 256) (k : Fin 768) :
    tab x1 (ix3 h r k) = if k.val / 64 ≤ r.val / 64 + 8 ∧ r.val / 64 + 8 ≤ k.val / 64 + 8 then
      x1 (ix3 0 h (AttRef.pos (IntOp.subi (IntOp.addi (BitVec.ofNat 32 r.val) 512#32) (BitVec.ofNat 32 k.val)))) else ⊥ := by
  have eg : (Host.gather gather_S16x257_S256x768x1_S16x256x768_0_1_n_n_1_2_161 (shapeCast S16x257 x1 shapeCasts_S1x16x257_S16x257)
      (broadcastInDim S256x768x1 ![0, 1] bcast_S256x768_S256x768x1_0_1 cols)) (ix3 h r k)
      = x1 (ix3 0 h (AttRef.pos (IntOp.subi (IntOp.addi (BitVec.ofNat 32 r.val) 512#32) (BitVec.ofNat 32 k.val)))) := by
    refine (AttRef.gather_col _ _ _ h r k).trans ?_
    have e2 : ∀ q : Fin 257, (shapeCast S16x257 x1 shapeCasts_S1x16x257_S16x257) (ix2 h q) = x1 (ix3 0 h q) := by
      intro q; pointwise
    refine (e2 _).trans (congrArg (fun a => x1 (ix3 0 h a)) (Fin.ext ?_))
    have e3 : (broadcastInDim S256x768x1 ![0, 1] bcast_S256x768_S256x768x1_0_1 cols) (ix3 r k 0) = cols (ix2 r k) := by pointwise
    show min (((broadcastInDim S256x768x1 ![0, 1] bcast_S256x768_S256x768x1_0_1 cols) (ix3 r k 0)).toInt.toNat) 256 = _
    rw [e3, cols_apply]
    rfl
  refine Eq.trans ?_ (AttRef.select_ofBool _ _ _)
  rw [← inBand_apply, ← eg, ← ninf]
  rfl

/-- What the host leaves in the table's array. -/
theorem V_tab (m : (ℓ : Loc nD τ sig) → Buf (Elt Ideal) ℓ) (c : Dev nD) : V m c main_v33 = tab (m ((c : Thread nD τ).loc main_arg1)) := by
  show StableHlo.after (List.flatten [hostOps0, hostOps0_1, hostOps0_2, hostOps0_3, hostOps0_4, hostOps0_5, hostOps0_6, hostOps0_7]) (fun b => m (c, b)) main_v33 = _
  simp only [hostOps0, hostOps0_1, hostOps0_2, hostOps0_3, hostOps0_4, hostOps0_5, hostOps0_6, hostOps0_7, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  try rfl

end Cert.Proof.AttHost

end
-- ==== Proof.AttRun.lean ====
module

public import proofs.«01_k».proof.Proof.AttBody
public import proofs.«01_k».proof.Proof.AttHost
public import proofs.«01_k».proof.Defs

@[expose] public section

noncomputable section

namespace Cert.Proof.AttRun

open Idealize.ShloMosaic Idealize.ShloMosaic.TcCoe Idealize.SL.Sem
open Cert.Proof.AttMath

/-! ## One block against the reference -/

/-- The distance of a row and a key, inside the window and among all positions. -/
theorem dist_eq (t u q k : Nat) (hk : k + 256 * q = u + 512) (hq : t / 256 = q) (ht : t < 2048) (hu : u < 2048) :
    IntOp.subi (IntOp.addi (BitVec.ofNat 32 (t % 256)) 512#32) (BitVec.ofNat 32 k) = IntOp.subi (BitVec.ofNat 32 t) (BitVec.ofNat 32 u) := by
  have e1 : t = t % 256 + 256 * q := by omega
  have e2 : BitVec.ofNat 32 t = BitVec.ofNat 32 (t % 256) + BitVec.ofNat 32 (256 * q) := by rw [← BitVec.ofNat_add, ← e1]
  have e3 : BitVec.ofNat 32 u + 512#32 = BitVec.ofNat 32 k + BitVec.ofNat 32 (256 * q) := by
    rw [← BitVec.ofNat_add, ← BitVec.ofNat_add, hk]
  show BitVec.ofNat 32 (t % 256) + 512#32 - BitVec.ofNat 32 k = BitVec.ofNat 32 t - BitVec.ofNat 32 u
  rw [e2]
  generalize BitVec.ofNat 32 (t % 256) = a at *
  generalize BitVec.ofNat 32 (256 * q) = s at *
  generalize BitVec.ofNat 32 u = y at *
  generalize BitVec.ofNat 32 k = z at *
  clear e2 e1
  bv_omega

/-- A finite score for each pair in the band, with finite queries, keys and bias. -/
theorem score_fin (X : Vec Ideal AttRefIdeal.S16x2048x3072 .bf16) (T : Vec Ideal AttRefIdeal.S1x16x257 .f32)
    (hX : ∀ b t (d : Fin 2048), Fin' (X (ix3 b t ⟨d.val, by omega⟩))) (hT : ∀ h p, Fin' (T (ix3 0 h p))) (b h : Fin 16) (t u : Fin 2048) :
    Fin' ((∑ x : Fin 64, X (ix3 b t ⟨h.val * 64 + x.val, by omega⟩) * X (ix3 b u ⟨1024 + (h.val * 64 + x.val), by omega⟩)) * Ideal.ofBits .f32 0x3E000000#32
      + T (ix3 0 h (AttRef.pos (IntOp.subi (BitVec.ofNat 32 t.val) (BitVec.ofNat 32 u.val))))) :=
  fin_add (fin_mul (fin_sum _ fun x => fin_mul (hX b t ⟨h.val * 64 + x.val, by omega⟩) (hX b u ⟨1024 + (h.val * 64 + x.val), by omega⟩)) fin_eighth) (hT _ _)

/-- The maximum of a row's scores is finite. -/
theorem score_top (X : Vec Ideal AttRefIdeal.S16x2048x3072 .bf16) (T : Vec Ideal AttRefIdeal.S1x16x257 .f32)
    (hX : ∀ b t (d : Fin 2048), Fin' (X (ix3 b t ⟨d.val, by omega⟩))) (hT : ∀ h p, Fin' (T (ix3 0 h p))) (b h : Fin 16) (t : Fin 2048) :
    top (AttRef.score X T b h t) ≠ ⊤ ∧ top (AttRef.score X T b h t) ≠ ⊥ := by
  have hbot : top (AttRef.score X T b h t) ≠ ⊥ := by
    intro e
    have h1 := le_top (AttRef.score X T b h t) t
    rw [e, le_bot_iff] at h1
    unfold AttRef.score at h1
    rw [if_pos ⟨le_rfl, by omega⟩] at h1
    exact (score_fin X T hX hT b h t t).2 h1
  refine ⟨fun e => ?_, hbot⟩
  obtain ⟨u, hu⟩ := top_attained _ hbot
  rw [e] at hu
  unfold AttRef.score at hu
  split at hu
  · exact (score_fin X T hX hT b h t u).1 hu
  · exact absurd hu bot_ne_top

/-- A block of the kernel is the reference's softmax average, for finite queries, keys and bias. -/
theorem blk_soft (X : Vec Ideal AttRefIdeal.S16x2048x3072 .bf16) (T : Vec Ideal AttRefIdeal.S1x16x257 .f32)
    (hX : ∀ b t (d : Fin 2048), Fin' (X (ix3 b t ⟨d.val, by omega⟩))) (hT : ∀ h p, Fin' (T (ix3 0 h p))) (b : Fin 16) (j : Fin 8)
    (x0 x1 x2 : Vec Ideal AttIdeal.S1x2048x128 .bf16) (x3 : Vec Ideal AttIdeal.S2x256x768 .f32)
    (h0 : ∀ (t : Fin 2048) (d : Fin 128), x0 (ix3 0 t d) = X (ix3 b t ⟨128 * j.val + d.val, by omega⟩))
    (h1 : ∀ (t : Fin 2048) (d : Fin 128), x1 (ix3 0 t d) = X (ix3 b t ⟨1024 + (128 * j.val + d.val), by omega⟩))
    (h2 : ∀ (t : Fin 2048) (d : Fin 128), x2 (ix3 0 t d) = X (ix3 b t ⟨2048 + (128 * j.val + d.val), by omega⟩))
    (h3 : ∀ (a : Fin 2) (r : Fin 256) (k : Fin 768), x3 (ix3 a r k) = AttHost.tab T (ix3 ⟨2 * j.val + a.val, by omega⟩ r k))
    (t : Fin 2048) (d : Fin 128) :
    AttBody.blkO x0 x1 x2 x3 t d
      = soft (AttRef.score X T b ⟨(128 * j.val + d.val) / 64, by omega⟩ t) (fun u => X (ix3 b u ⟨2048 + (128 * j.val + d.val), by omega⟩)) := by
  obtain ⟨hp, hb⟩ := score_top X T hX hT b ⟨(128 * j.val + d.val) / 64, by omega⟩ t
  refine Eq.trans ?_ (late_eq_soft _ _ hp hb)
  unfold AttBody.blkO
  have htl := t.isLt
  refine late_window _ _ _ _ (256 * (t.val / 256)) (by omega) ?_ ?_ ?_
  · intro k u hku
    have hul := u.isLt
    have hkl := k.isLt
    constructor
    · unfold AttBody.sel
      rw [if_neg (by omega)]
      beta_reduce
      rw [h3, AttHost.tab_apply]
      unfold AttRef.score
      by_cases hc : u.val / 64 ≤ t.val / 64 ∧ t.val / 64 ≤ u.val / 64 + 8
      · rw [if_pos hc, if_pos (show k.val / 64 ≤ t.val % 256 / 64 + 8 ∧ t.val % 256 / 64 + 8 ≤ k.val / 64 + 8 by omega)]
        refine congrArg₂ (HAdd.hAdd (α := EReal) (β := EReal) (γ := EReal)) (congrArg (fun z : EReal => z * AttBody.sc) (Finset.sum_congr rfl fun x _ => congrArg₂ (HMul.hMul (α := EReal) (β := EReal) (γ := EReal)) ?_ ?_)) ?_
        · rw [h0]
          refine congrArg (fun z => X (ix3 b t z)) (Fin.ext ?_)
          show 128 * j.val + (64 * (d.val / 64) + x.val) = (128 * j.val + d.val) / 64 * 64 + x.val
          omega
        · unfold AttBody.pad
          rw [dif_pos ⟨by omega, by omega⟩, h1]
          refine congrArg₂ (fun y z => X (ix3 b y z)) (Fin.ext ?_) (Fin.ext ?_)
          · show 256 * (t.val / 256) + k.val - 512 = u.val
            omega
          · show 1024 + (128 * j.val + (64 * (d.val / 64) + x.val)) = 1024 + ((128 * j.val + d.val) / 64 * 64 + x.val)
            omega
        · refine congrArg₂ (fun y z => T (ix3 0 y (AttRef.pos z))) (Fin.ext ?_) ?_
          · show 2 * j.val + d.val / 64 = (128 * j.val + d.val) / 64
            omega
          · exact dist_eq t.val u.val (t.val / 256) k.val (by omega) rfl t.isLt u.isLt
      · rw [if_neg hc, if_neg (show ¬ (k.val / 64 ≤ t.val % 256 / 64 + 8 ∧ t.val % 256 / 64 + 8 ≤ k.val / 64 + 8) by omega)]
        exact EReal.add_bot _
    · unfold AttBody.pad
      rw [dif_pos ⟨by omega, by omega⟩, h2]
      refine congrArg (fun y => X (ix3 b y _)) (Fin.ext ?_)
      show 256 * (t.val / 256) + k.val - 512 = u.val
      omega
  · intro k hk
    exact if_pos hk
  · intro u hu
    have hul := u.isLt
    exact if_neg (by omega)

/-! ## The precondition -/

/-- A number whose absolute value is below infinity is finite. -/
theorem fin_of_cmp (x : EReal) (h : Ideal.cmp .olt (max x (-x)) (Ideal.ofBits .f32 0x7F800000#32) = 1#1) : Fin' x := by
  rw [pinf] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  refine ⟨fun e => ?_, fun e => ?_⟩ <;> subst e <;> simp at h'

section Kernel
open Cert.AttIdeal Cert.AttIdeal.Gen Cert.AttIdeal.Value

variable (m : (ℓ : Loc nD τ sig) → Buf (Elt Ideal) ℓ) (ρ : Dev nD → PrngReg)

/-- The precondition's side conditions hold. -/
theorem preFacts : Cert.Pre_finite.Facts := ⟨by decide, by decide, by decide, by decide⟩

/-- What the precondition says of the packed projections: queries and keys are finite. -/
theorem pre_X (h : Cert.Pre_AttIdeal_finite (hPre_finite := preFacts) m) (c : Dev nD) (b : Fin 16) (t : Fin 2048) (d : Fin 2048) :
    Fin' (m ((c : Thread nD τ).loc main_arg0) (ix3 b t ⟨d.val, by omega⟩)) := by
  refine fin_of_cmp _ (Eq.trans ?_ (congrFun (h c).1 (ix3 b t d)))
  symm
  unfold Cert.Pre_finite.fn
  pointwise
  rfl

/-- What it says of the bias table. -/
theorem pre_T (h : Cert.Pre_AttIdeal_finite (hPre_finite := preFacts) m) (c : Dev nD) (a : Fin 16) (p : Fin 257) :
    Fin' (m ((c : Thread nD τ).loc main_arg1) (ix3 0 a p)) := by
  refine fin_of_cmp _ (Eq.trans ?_ (congrFun (h c).2 (ix3 0 a p)))
  symm
  unfold Cert.Pre_finite.fn
  pointwise
  rfl

/-! ## The run -/

/-- The block of each window at each of the 128 points. -/
theorem idx0 : ∀ t : Fin cfg0.N, win0_0.index t (0 : Fin 3) = t.val / 8 ∧ win0_0.index t (1 : Fin 3) = 0 ∧ win0_0.index t (2 : Fin 3) = t.val % 8 := (by decide +kernel : ∀ t : Fin grid0.N, _)
theorem idx1 : ∀ t : Fin cfg0.N, win0_1.index t (0 : Fin 3) = t.val / 8 ∧ win0_1.index t (1 : Fin 3) = 0 ∧ win0_1.index t (2 : Fin 3) = 8 + t.val % 8 := (by decide +kernel : ∀ t : Fin grid0.N, _)
theorem idx2 : ∀ t : Fin cfg0.N, win0_2.index t (0 : Fin 3) = t.val / 8 ∧ win0_2.index t (1 : Fin 3) = 0 ∧ win0_2.index t (2 : Fin 3) = 16 + t.val % 8 := (by decide +kernel : ∀ t : Fin grid0.N, _)
theorem idx3 : ∀ t : Fin cfg0.N, win0_3.index t (0 : Fin 3) = t.val % 8 ∧ win0_3.index t (1 : Fin 3) = 0 ∧ win0_3.index t (2 : Fin 3) = 0 := (by decide +kernel : ∀ t : Fin grid0.N, _)
theorem idx4 : ∀ t : Fin cfg0.N, win0_4.index t (0 : Fin 3) = t.val / 8 ∧ win0_4.index t (1 : Fin 3) = 0 ∧ win0_4.index t (2 : Fin 3) = t.val % 8 := (by decide +kernel : ∀ t : Fin grid0.N, _)

/-- There are 128 points. -/
theorem point_lt (t : Fin cfg0.N) : t.val < 128 := lt_of_lt_of_eq t.isLt N_0

/-- The batch element of a point. -/
def bat (t : Fin cfg0.N) : Fin 16 := ⟨t.val / 8, by have := point_lt t; omega⟩

/-- The pair of heads of a point. -/
def pair (t : Fin cfg0.N) : Fin 8 := ⟨t.val % 8, Nat.mod_lt _ (by decide)⟩

/-- The blocks the kernel reads, of the packed projections and of the table. -/
theorem iblk0_apply (c : Dev nD) (t : Fin cfg0.N) (r : Fin 2048) (d : Fin 128) :
    iblk m c 0 t (ix3 0 r d) = m ((c : Thread nD τ).loc main_arg0) (ix3 (bat t) r ⟨128 * (pair t).val + d.val, by omega⟩) := by
  obtain ⟨e0, e1, e2⟩ := idx0 t
  rw [← V_main_arg0 m c]
  show V m c main_arg0 (((cfg0.win 0).blk t).view.emb (ix3 0 r d)) = _
  refine congrArg (V m c main_arg0) (funext fun a => Fin.ext ?_)
  match a with
  | ⟨0, _⟩ => show win0_0.index t (0 : Fin 3) * 1 + 1 * 0 = t.val / 8; omega
  | ⟨1, _⟩ => show win0_0.index t (1 : Fin 3) * 2048 + 1 * r.val = r.val; omega
  | ⟨2, _⟩ => show win0_0.index t (2 : Fin 3) * 128 + 1 * d.val = 128 * (t.val % 8) + d.val; omega

theorem iblk1_apply (c : Dev nD) (t : Fin cfg0.N) (r : Fin 2048) (d : Fin 128) :
    iblk m c 1 t (ix3 0 r d) = m ((c : Thread nD τ).loc main_arg0) (ix3 (bat t) r ⟨1024 + (128 * (pair t).val + d.val), by omega⟩) := by
  obtain ⟨e0, e1, e2⟩ := idx1 t
  rw [← V_main_arg0 m c]
  show V m c main_arg0 (((cfg0.win 1).blk t).view.emb (ix3 0 r d)) = _
  refine congrArg (V m c main_arg0) (funext fun a => Fin.ext ?_)
  match a with
  | ⟨0, _⟩ => show win0_1.index t (0 : Fin 3) * 1 + 1 * 0 = t.val / 8; omega
  | ⟨1, _⟩ => show win0_1.index t (1 : Fin 3) * 2048 + 1 * r.val = r.val; omega
  | ⟨2, _⟩ => show win0_1.index t (2 : Fin 3) * 128 + 1 * d.val = 1024 + (128 * (t.val % 8) + d.val); omega

theorem iblk2_apply (c : Dev nD) (t : Fin cfg0.N) (r : Fin 2048) (d : Fin 128) :
    iblk m c 2 t (ix3 0 r d) = m ((c : Thread nD τ).loc main_arg0) (ix3 (bat t) r ⟨2048 + (128 * (pair t).val + d.val), by omega⟩) := by
  obtain ⟨e0, e1, e2⟩ := idx2 t
  rw [← V_main_arg0 m c]
  show V m c main_arg0 (((cfg0.win 2).blk t).view.emb (ix3 0 r d)) = _
  refine congrArg (V m c main_arg0) (funext fun a => Fin.ext ?_)
  match a with
  | ⟨0, _⟩ => show win0_2.index t (0 : Fin 3) * 1 + 1 * 0 = t.val / 8; omega
  | ⟨1, _⟩ => show win0_2.index t (1 : Fin 3) * 2048 + 1 * r.val = r.val; omega
  | ⟨2, _⟩ => show win0_2.index t (2 : Fin 3) * 128 + 1 * d.val = 2048 + (128 * (t.val % 8) + d.val); omega

theorem iblk3_apply (c : Dev nD) (t : Fin cfg0.N) (a : Fin 2) (r : Fin 256) (k : Fin 768) :
    iblk m c 3 t (ix3 a r k) = AttHost.tab (m ((c : Thread nD τ).loc main_arg1)) (ix3 ⟨2 * (pair t).val + a.val, by omega⟩ r k) := by
  obtain ⟨e0, e1, e2⟩ := idx3 t
  rw [← AttHost.V_tab m c]
  show V m c main_v33 (((cfg0.win 3).blk t).view.emb (ix3 a r k)) = _
  refine congrArg (V m c main_v33) (funext fun x => Fin.ext ?_)
  match x with
  | ⟨0, _⟩ => show win0_3.index t (0 : Fin 3) * 2 + 1 * a.val = 2 * (t.val % 8) + a.val; omega
  | ⟨1, _⟩ => show win0_3.index t (1 : Fin 3) * 256 + 1 * r.val = r.val; omega
  | ⟨2, _⟩ => show win0_3.index t (2 : Fin 3) * 768 + 1 * k.val = k.val; omega

/-- The output array: the reference's value of the two arguments. -/
def A4 (c : Dev nD) : Vec Ideal S16x2048x1024 .bf16 :=
  AttRefIdeal.Read.val_main_v57 (F := Ideal) (m ((c : Thread nD τ).loc main_arg0)) (m ((c : Thread nD τ).loc main_arg1))

theorem flushed4_eq (h : Cert.Pre_AttIdeal_finite (hPre_finite := preFacts) m) (c : Dev nD) (t : Fin cfg0.N) :
    (dats m 0 c).flushed 4 t = ((cfg0.win 4).blk t).view.read (Elt Ideal) (A4 m c) := by
  rw [flushed4_A, AttBody.out_eq]
  obtain ⟨e0, e1, e2⟩ := idx4 t
  funext y
  show AttBody.blkO (iblk m c 0 t) (iblk m c 1 t) (iblk m c 2 t) (iblk m c 3 t) (y 1) (y 2) = A4 m c (((cfg0.win 4).blk t).view.emb y)
  refine (blk_soft _ _ (pre_X m h c) (pre_T m h c) (bat t) (pair t) _ _ _ _ (iblk0_apply m c t) (iblk1_apply m c t) (iblk2_apply m c t) (iblk3_apply m c t) (y 1) (y 2)).trans ?_
  have hy := (y 2).isLt
  refine (AttRef.v57_apply _ _ (bat t) (y 1) ⟨128 * (pair t).val + (y 2).val, ?_⟩).symm.trans ?_
  · have : (y 2).val < 128 := (y 2).isLt
    omega
  · refine congrArg (A4 m c) (funext fun a => Fin.ext ?_)
    match a with
    | ⟨0, _⟩ => show t.val / 8 = win0_4.index t (0 : Fin 3) * 1 + 1 * (y 0).val; have : (y 0).val < 1 := (y 0).isLt; omega
    | ⟨1, _⟩ => show (y 1).val = win0_4.index t (1 : Fin 3) * 2048 + 1 * (y 1).val; omega
    | ⟨2, _⟩ => show 128 * (t.val % 8) + (y 2).val = win0_4.index t (2 : Fin 3) * 128 + 1 * (y 2).val; omega

theorem covered4 (i : S16x2048x1024.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 1024 := (i 2).isLt
  obtain ⟨t, ht⟩ : ∃ t : Fin cfg0.N, t.val = 8 * (i 0).val + (i 2).val / 128 := ⟨⟨8 * (i 0).val + (i 2).val / 128, lt_of_lt_of_eq (by omega) N_0.symm⟩, rfl⟩
  obtain ⟨e0, e1, e2⟩ := idx4 t
  have h := ((cfg0.win 4).blk t).view.emb_mem_set (ix3 0 ⟨(i 1).val, h1⟩ ⟨(i 2).val % 128, Nat.mod_lt _ (by decide)⟩ : S1x2048x128.Idx)
  have e : ((cfg0.win 4).blk t).view.emb (ix3 0 ⟨(i 1).val, h1⟩ ⟨(i 2).val % 128, Nat.mod_lt _ (by decide)⟩ : S1x2048x128.Idx) = (show ((cfg0.win 4).blk t).view.ty.Idx from i) :=
    funext fun a => Fin.ext (by
      match a with
      | ⟨0, _⟩ => show win0_4.index t (0 : Fin 3) * 1 + 1 * 0 = (i 0).val; omega
      | ⟨1, _⟩ => show win0_4.index t (1 : Fin 3) * 2048 + 1 * (i 1).val = (i 1).val; omega
      | ⟨2, _⟩ => show win0_4.index t (2 : Fin 3) * 128 + 1 * ((i 2).val % 128) = (i 2).val; omega)
  rw [e] at h
  exact ⟨t, flush0_4 t, h⟩

/-- The output array after the run. -/
theorem final4 (h : Cert.Pre_AttIdeal_finite (hPre_finite := preFacts) m) (c : Dev nD) : (dats m 0 c).arrAt 4 cfg0.N = A4 m c :=
  (dats m 0 c).arrAt_eq_of_cover 4 (A4 m c) (fun t _ => flushed4_eq m h c t) covered4

end Kernel

/-- The kernel and the reference end with equal results, for finite queries, keys and bias. -/
theorem algebraic : Cert.algebraic_AttIdeal_AttRefIdeal_pre_finite (hAttIdeal := Cert.AttIdeal.Gen.facts) (hAttRefIdeal := Cert.AttRefIdeal.Gen.facts) (hPre_finite := preFacts) := by
  intro m g m' g' hpre hagree
  refine ⟨fun c => A4 m c, ?_, ?_⟩
  · exact (θ_run _ _ _).mono (fun r h c => ⟨(h c).1.trans (final4 m hpre c), (h c).2⟩) (AttIdeal.Value.run_blocks m g)
  · refine (θ_run _ _ _).mono (fun r h c => ⟨(h c).1.trans ?_, (h c).2⟩) (AttRefIdeal.Value.run m' g')
    obtain ⟨h0, h1⟩ := hagree c
    rw [AttRefIdeal.Read.val_main_v57_eq, h0, h1]
    rfl

end Cert.Proof.AttRun

end
-- ==== Proof.UpBody.lean ====
/- The expert-product kernel's body, case by case. -/
module

public import proofs.«01_k».proof.Proof.Gen.UpIdeal.Skeleton
public import proofs.«01_k».proof.Proof.Gen.UpIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Proof.Up

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables and the two scratch buffers the body is handed, whole. -/
abbrev tab0 : Memref sig .tc .smem S287 .i32 := Memref.whole main_arg0
abbrev tab1 : Memref sig .tc .smem S1 .i32 := Memref.whole main_arg1
abbrev scr0 : Memref sig .tc .vmem S2048x512 .bf16 := Memref.whole cc0_scratch0
abbrev scr1 : Memref sig .tc .vmem S2048x512 .bf16 := Memref.whole cc0_scratch1

/-- The expert's number the body reads for its own tile, -/
abbrev wCur (i : grid0.Coords) (T0 : S287.Idx → Elt F .i32) : BitVec 32 :=
  View.readAt (Elt F) tab0.view (Rect.unit (s := S287) (k0_off1 i) S1.size (k0_off1_inb i)).toLoadRect T0 (Shape.Idx.first (numel1_S1.symm ▸ Nat.one_pos))
/-- for the tile before, -/
abbrev wPrev (i : grid0.Coords) (T0 : S287.Idx → Elt F .i32) : BitVec 32 :=
  View.readAt (Elt F) tab0.view (Rect.unit (s := S287) (k0_off2 i) S1.size (k0_off2_inb i)).toLoadRect T0 (Shape.Idx.first (numel1_S1.symm ▸ Nat.one_pos))
/-- and the number of used tiles. -/
abbrev wMeta (T1 : S1.Idx → Elt F .i32) : BitVec 32 :=
  View.readAt (Elt F) tab1.view (Rect.unit (s := S1) ![0] S1.size inb_S1_S1_0).toLoadRect T1 (Shape.Idx.first (numel1_S1.symm ▸ Nat.one_pos))

/-- The word deciding whether the body refills its scratch buffers. -/
abbrev refill (i : grid0.Coords) (T0 : S287.Idx → Elt F .i32) : BitVec 1 :=
  Scalar.cmpi .ne (Scalar.extui (Scalar.ori (Scalar.cmpi .eq (BitVec.ofNat 32 (i 1).val) 0#32) (Scalar.cmpi .ne (wCur i T0) (wPrev i T0)))) 0#32

/-- The staging memrefs the body is handed at a point. -/
structure Stg where
  a4 : Memref sig .tc .vmem S512x1024 .i32
  h4 : a4.IsWhole
  a5 : Memref sig .tc .vmem S1x2048x512 .f32
  h5 : a5.IsWhole
  a6 : Memref sig .tc .vmem S1x2048x512 .f32
  h6 : a6.IsWhole
  a7 : Memref sig .tc .vmem S1x1x512 .f32
  h7 : a7.IsWhole
  a8 : Memref sig .tc .vmem S1x1x512 .f32
  h8 : a8.IsWhole
  a9 : Memref sig .tc .vmem S512x512 .bf16
  h9 : a9.IsWhole

/-- The input blocks at a point. -/
structure Blk (F : FTy → Type) where
  x0 : S512x1024.Idx → Elt F .i32
  x1 : S1x2048x512.Idx → Elt F .f32
  x2 : S1x2048x512.Idx → Elt F .f32
  x3 : S1x1x512.Idx → Elt F .f32
  x4 : S1x1x512.Idx → Elt F .f32

/-- What the body holds of its inputs and tables throughout. -/
def held (c : Dev nD) (s : Stg) (b : Blk F) (T0 : S287.Idx → Elt F .i32) (T1 : S1.Idx → Elt F .i32) : sProp 𝕄 :=
  iprop((s.a4.view.loc (c : Thread nD τ) ↦[s.a4.view.set]{fullShare} s.a4.view.rep b.x0)
    ∗ (s.a5.view.loc (c : Thread nD τ) ↦[s.a5.view.set]{fullShare} s.a5.view.rep b.x1)
    ∗ (s.a6.view.loc (c : Thread nD τ) ↦[s.a6.view.set]{fullShare} s.a6.view.rep b.x2)
    ∗ (s.a7.view.loc (c : Thread nD τ) ↦[s.a7.view.set]{fullShare} s.a7.view.rep b.x3)
    ∗ (s.a8.view.loc (c : Thread nD τ) ↦[s.a8.view.set]{fullShare} s.a8.view.rep b.x4)
    ∗ (tab0.view.loc (c : Thread nD τ) ↦{fullShare.right} T0)
    ∗ (tab1.view.loc (c : Thread nD τ) ↦{fullShare.right} T1))

/-- Storing a whole buffer's contents is holding them. -/
theorem writes_full {sp : Space} {S : Shape} {e : EltTy} (v : View sig .tc sp S e) {off : Fin S.rank → ℕ} (h : off = fun _ => 0)
    (inb : ∀ a, off a + S.size a ≤ S.size a) (f : v.ty.Contents (Elt F)) (w : S.Idx → Elt F e) :
    v.writes (Elt F) f [⟨Rect.unit off S.size inb, w⟩] = v.writes (Elt F) f [⟨Rect.whole S, w⟩] := by
  subst h; rfl

/-- The body's run: from scratch contents `u`, `v` it stores `o` and leaves the scratch buffers at `u'`, `v'`. -/
def Runs (c : Dev nD) (i : grid0.Coords) (s : Stg) (b : Blk F) (T0 : S287.Idx → Elt F .i32) (T1 : S1.Idx → Elt F .i32)
    (u v : S2048x512.Idx → Elt F .bf16) (o : S512x512.Idx → Elt F .bf16) (u' v' : S2048x512.Idx → Elt F .bf16) : Prop :=
  ∀ K : PUnit → sProp 𝕄,
    iprop(held c s b T0 T1 ∗ (∃ d, owns (c : Thread nD τ) s.a9 fullShare d)
        ∗ (scr0.view.loc (c : Thread nD τ) ↦{fullShare} u) ∗ (scr1.view.loc (c : Thread nD τ) ↦{fullShare} v)
        ∗ (iprop(held c s b T0 T1 ∗ owns (c : Thread nD τ) s.a9 fullShare o
            ∗ (scr0.view.loc (c : Thread nD τ) ↦{fullShare} u') ∗ (scr1.view.loc (c : Thread nD τ) ↦{fullShare} v')) -∗ K ⟨⟩))
      ⊢ wp frame (wpE (defs₀ (F := F)) Variants.none c none) Set.univ
          (cc0_moe_gate_up i tab0 (Memref.isWhole_whole _) tab1 (Memref.isWhole_whole _) s.a4 s.h4 s.a5 s.h5 s.a6 s.h6 s.a7 s.h7 s.a8 s.h8 s.a9 s.h9
            scr0 (Memref.isWhole_whole _) scr1 (Memref.isWhole_whole _)) K

/-- What a used tile's body stores, from its rows, the two weight blocks and the two bias blocks. -/
def tile (x : S512x1024.Idx → Elt F .i32) (u v : S2048x512.Idx → Elt F .bf16) (p q : S1x1x512.Idx → Elt F .f32) : S512x512.Idx → Elt F .bf16 :=
  k0_pay3 (k0_pay7 x u p v q) (k0_pay8 x u p) k0_pay9

set_option maxHeartbeats 8000000 in
/-- A used tile whose expert is new: the scratch buffers are refilled, and the tile is computed from them. -/
theorem runs_new_used (c : Dev nD) (i : grid0.Coords) (s : Stg) (b : Blk F) (T0 : S287.Idx → Elt F .i32) (T1 : S1.Idx → Elt F .i32)
    (u v : S2048x512.Idx → Elt F .bf16) (hc0 : refill i T0 = 1#1) (h2 : k0_cond2 i (wMeta T1) = 1#1) (h3 : ¬k0_cond3 i (wMeta T1) = 1#1) :
    Runs c i s b T0 T1 u v (tile b.x0 (k0_pay1 b.x1) (k0_pay2 b.x2) b.x3 b.x4) (scr0.view.rep (k0_pay1 b.x1)) (scr1.view.rep (k0_pay2 b.x2)) := by
  intro K
  unfold held owns
  rw [cc0_moe_gate_up_eq_skeleton]; unfold cc0_moe_gate_up_skel
  iintro ⟨⟨H0, H1, H2, H3, H4, HT0, HT1⟩, ⟨%d5, %f5, -, HO5⟩, HS0, HS1, Hk⟩
  have hS0 : scr0.IsWhole := Memref.isWhole_whole _
  have hS1 : scr1.IsWhole := Memref.isWhole_whole _
  have hT0 : tab0.IsWhole := Memref.isWhole_whole _
  have hT1 : tab1.IsWhole := Memref.isWhole_whole _
  sl_exec! (disch := first | (guard_target = Scalar.cmpi _ _ _ = _; exact hc0) | (guard_target = k0_cond2 _ _ = _; exact h2) | (guard_target = ¬(k0_cond3 _ _ = _); exact h3))
  sl_step
  iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _
    isplitr; swap
    · iexact HO5
    ipureintro
    rw [writes_full _ (by decide), View.read_writes_whole]
    have eg : runs_new_used.sl.v29 s b = k0_pay1 b.x1 := by
      unfold runs_new_used.sl.v29 runs_new_used.sl.HS0_1
      rw [View.readCov_full, View.readAt_rep_full]
    have eu : runs_new_used.sl.v35 s b = k0_pay2 b.x2 := by
      unfold runs_new_used.sl.v35 runs_new_used.sl.HS1_1
      rw [View.readCov_full, View.readAt_rep_full]
    unfold runs_new_used.sl.r_3 runs_new_used.sl.r_4 tile
    rw [eg, eu, View.readAt_rep_full, View.readAt_rep_full, View.readAt_rep_full]
  isplitl [HS0]
  · rw [show scr0.view.rep (k0_pay1 b.x1) = scr0.view.writes (Elt F) scr0.view.junk (runs_new_used.sl.HS0_1 s b) from by
      unfold runs_new_used.sl.HS0_1; rw [View.readAt_rep_full]; exact (writes_full _ (by decide) _ _ _).symm]
    iexact HS0
  rw [show scr1.view.rep (k0_pay2 b.x2) = scr1.view.writes (Elt F) scr1.view.junk (runs_new_used.sl.HS1_1 s b) from by
      unfold runs_new_used.sl.HS1_1; rw [View.readAt_rep_full]; exact (writes_full _ (by decide) _ _ _).symm]
  iexact HS1

set_option maxHeartbeats 8000000 in
/-- A used tile of the expert before: it is computed from what the scratch buffers hold. -/
theorem runs_old_used (c : Dev nD) (i : grid0.Coords) (s : Stg) (b : Blk F) (T0 : S287.Idx → Elt F .i32) (T1 : S1.Idx → Elt F .i32)
    (u v : S2048x512.Idx → Elt F .bf16) (hc0 : ¬refill i T0 = 1#1) (h2 : k0_cond2 i (wMeta T1) = 1#1) (h3 : ¬k0_cond3 i (wMeta T1) = 1#1) :
    Runs c i s b T0 T1 (scr0.view.rep u) (scr1.view.rep v) (tile b.x0 u v b.x3 b.x4) (scr0.view.rep u) (scr1.view.rep v) := by
  intro K
  unfold held owns
  rw [cc0_moe_gate_up_eq_skeleton]; unfold cc0_moe_gate_up_skel
  iintro ⟨⟨H0, H1, H2, H3, H4, HT0, HT1⟩, ⟨%d5, %f5, -, HO5⟩, HS0, HS1, Hk⟩
  have hS0 : scr0.IsWhole := Memref.isWhole_whole _
  have hS1 : scr1.IsWhole := Memref.isWhole_whole _
  have hT0 : tab0.IsWhole := Memref.isWhole_whole _
  have hT1 : tab1.IsWhole := Memref.isWhole_whole _
  sl_exec! (disch := first | (guard_target = ¬(Scalar.cmpi _ _ _ = _); exact hc0) | (guard_target = k0_cond2 _ _ = _; exact h2) | (guard_target = ¬(k0_cond3 _ _ = _); exact h3))
  sl_step
  iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _
    isplitr; swap
    · iexact HO5
    ipureintro
    rw [writes_full _ (by decide), View.read_writes_whole]
    unfold runs_old_used.sl.r_3 runs_old_used.sl.r_4 tile
    rw [View.readAt_rep_full, View.readAt_rep_full, View.readAt_rep_full, View.readAt_rep_full, View.readAt_rep_full]
  isplitl [HS0]
  · iexact HS0
  iexact HS1

set_option maxHeartbeats 8000000 in
/-- An unused tile whose expert is new: the scratch buffers are refilled, and zeros stored. -/
theorem runs_new_idle (c : Dev nD) (i : grid0.Coords) (s : Stg) (b : Blk F) (T0 : S287.Idx → Elt F .i32) (T1 : S1.Idx → Elt F .i32)
    (u v : S2048x512.Idx → Elt F .bf16) (hc0 : refill i T0 = 1#1) (h2 : ¬k0_cond2 i (wMeta T1) = 1#1) (h3 : k0_cond3 i (wMeta T1) = 1#1) :
    Runs c i s b T0 T1 u v k0_pay4 (scr0.view.rep (k0_pay1 b.x1)) (scr1.view.rep (k0_pay2 b.x2)) := by
  intro K
  unfold held owns
  rw [cc0_moe_gate_up_eq_skeleton]; unfold cc0_moe_gate_up_skel
  iintro ⟨⟨H0, H1, H2, H3, H4, HT0, HT1⟩, ⟨%d5, %f5, -, HO5⟩, HS0, HS1, Hk⟩
  have hS0 : scr0.IsWhole := Memref.isWhole_whole _
  have hS1 : scr1.IsWhole := Memref.isWhole_whole _
  have hT0 : tab0.IsWhole := Memref.isWhole_whole _
  have hT1 : tab1.IsWhole := Memref.isWhole_whole _
  sl_exec! (disch := first | (guard_target = Scalar.cmpi _ _ _ = _; exact hc0) | (guard_target = ¬(k0_cond2 _ _ = _); exact h2) | (guard_target = k0_cond3 _ _ = _; exact h3))
  sl_step
  iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _
    isplitr; swap
    · iexact HO5
    ipureintro
    rw [writes_full _ (by decide), View.read_writes_whole]
  isplitl [HS0]
  · rw [show scr0.view.rep (k0_pay1 b.x1) = scr0.view.writes (Elt F) scr0.view.junk (runs_new_idle.sl.HS0_1 s b) from by
      unfold runs_new_idle.sl.HS0_1; rw [View.readAt_rep_full]; exact (writes_full _ (by decide) _ _ _).symm]
    iexact HS0
  rw [show scr1.view.rep (k0_pay2 b.x2) = scr1.view.writes (Elt F) scr1.view.junk (runs_new_idle.sl.HS1_1 s b) from by
      unfold runs_new_idle.sl.HS1_1; rw [View.readAt_rep_full]; exact (writes_full _ (by decide) _ _ _).symm]
  iexact HS1

set_option maxHeartbeats 8000000 in
/-- An unused tile of the expert before: zeros are stored. -/
theorem runs_old_idle (c : Dev nD) (i : grid0.Coords) (s : Stg) (b : Blk F) (T0 : S287.Idx → Elt F .i32) (T1 : S1.Idx → Elt F .i32)
    (u v : S2048x512.Idx → Elt F .bf16) (hc0 : ¬refill i T0 = 1#1) (h2 : ¬k0_cond2 i (wMeta T1) = 1#1) (h3 : k0_cond3 i (wMeta T1) = 1#1) :
    Runs c i s b T0 T1 (scr0.view.rep u) (scr1.view.rep v) k0_pay4 (scr0.view.rep u) (scr1.view.rep v) := by
  intro K
  unfold held owns
  rw [cc0_moe_gate_up_eq_skeleton]; unfold cc0_moe_gate_up_skel
  iintro ⟨⟨H0, H1, H2, H3, H4, HT0, HT1⟩, ⟨%d5, %f5, -, HO5⟩, HS0, HS1, Hk⟩
  have hS0 : scr0.IsWhole := Memref.isWhole_whole _
  have hS1 : scr1.IsWhole := Memref.isWhole_whole _
  have hT0 : tab0.IsWhole := Memref.isWhole_whole _
  have hT1 : tab1.IsWhole := Memref.isWhole_whole _
  sl_exec! (disch := first | (guard_target = ¬(Scalar.cmpi _ _ _ = _); exact hc0) | (guard_target = ¬(k0_cond2 _ _ = _); exact h2) | (guard_target = k0_cond3 _ _ = _; exact h3))
  sl_step
  iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _
    isplitr; swap
    · iexact HO5
    ipureintro
    rw [writes_full _ (by decide), View.read_writes_whole]
  isplitl [HS0]
  · iexact HS0
  iexact HS1

end Cert.Proof.Up

end
-- ==== Proof.UpTab.lean ====
/- The expert-product kernel's tables: the words its index maps and its body read. -/
module

public import proofs.«01_k».proof.Proof.UpBody
public import Idealize.ShloMosaic.Lib.Pointwise
public import Idealize.ShloMosaic.Lib.WordCmp

@[expose] public section

set_option maxRecDepth 16384

noncomputable section

namespace Cert.Proof.Up

open Cert.UpIdeal Cert.UpIdeal.Gen
open Idealize.ShloMosaic
open Idealize.ShloMosaic.TcCoe Idealize.ShloMosaic.WordCmp

variable {F : FTy → Type} [FloatOps F]

/-- What the host code makes of the tables: each tile's expert among the thirty-two, and between one and all of the tiles used. -/
structure Good (T0 : S287.Idx → BitVec 32) (T1 : S1.Idx → BitVec 32) : Prop where
  exp : ∀ k : Fin 287, (T0 (ix1 k)).toNat < 32
  lo : 1 ≤ (T1 (ix1 0)).toNat
  hi : (T1 (ix1 0)).toNat ≤ 287

/-- The tables' contents, as the pipeline takes them. -/
def pfN (T0 : S287.Idx → BitVec 32) (T1 : S1.Idx → BitVec 32) : pre0.Contents (Elt F) :=
  fun | ⟨0, _⟩ => T0 | ⟨1, _⟩ => T1 | ⟨_ + 2, h⟩ => absurd h (by simp)

variable (T0 : S287.Idx → BitVec 32) (T1 : S1.Idx → BitVec 32) (i : grid0.Coords)

theorem i0_lt : (i 0).val < 4 := (i 0).isLt
theorem i1_lt : (i 1).val < 287 := (i 1).isLt

/-- A grid coordinate as a word. -/
theorem word_toNat (n : ℕ) (h : n < 287) : (BitVec.ofNat 32 n).toNat = n := by
  rw [BitVec.toNat_ofNat]; omega

theorem word_toInt (n : ℕ) (h : n < 2 ^ 31) : (BitVec.ofNat 32 n).toInt = n := by
  rw [BitVec.toInt_eq_toNat_cond, BitVec.toNat_ofNat]; omega

theorem toInt_small (w : BitVec 32) (h : w.toNat ≤ 287) : w.toInt = w.toNat := by
  rw [BitVec.toInt_eq_toNat_cond]; omega

/-- The tile of a grid point. -/
def tileOf : Fin 287 := ⟨(i 1).val, i1_lt i⟩
/-- The tile before it. -/
def tilePrev : Fin 287 := ⟨(i 1).val - 1, by have := i1_lt i; omega⟩

theorem off1_eq : k0_off1 i 0 = (i 1).val := word_toNat _ (i1_lt i)

theorem off2_eq : k0_off2 i 0 = (i 1).val - 1 := by
  exact (by decide +kernel : ∀ n : Fin 287, (IntOp.maxsi (IntOp.subi (BitVec.ofNat 32 n.val) 1#32) 0#32).toNat = n.val - 1) (tileOf i)

theorem at0 : (pfN (F := F) T0 T1).at 0 (Rect.unit (s := S287) (k0_off1 i) S1.size (k0_off1_inb i)) numel1_S1 = T0 (ix1 (tileOf i)) := by
  refine congrArg T0 (funext fun a => Fin.ext ?_)
  fin_cases a
  show k0_off1 i 0 + 1 * 0 = (i 1).val
  rw [off1_eq]; omega

theorem at1 : (pfN (F := F) T0 T1).at 1 (Rect.unit (s := S1) ![0] S1.size inb_S1_S1_0) numel1_S1 = T1 (ix1 0) := by
  refine congrArg T1 (funext fun a => Fin.ext ?_)
  fin_cases a
  rfl

theorem wCur_eq : wCur (F := F) i T0 = T0 (ix1 (tileOf i)) := at0 (F := F) T0 (fun _ => 0#32) i

theorem wPrev_eq : wPrev (F := F) i T0 = T0 (ix1 (tilePrev i)) := by
  refine congrArg T0 (funext fun a => Fin.ext ?_)
  fin_cases a
  show k0_off2 i 0 + 1 * 0 = (i 1).val - 1
  rw [off2_eq]; omega

theorem wMeta_eq : wMeta (F := F) T1 = T1 (ix1 0) := at1 (F := F) (fun _ => 0#32) T1

theorem tr0 (g : Good T0 T1) (a : Fin 2) : cc0_transform_0 inb_S1_S1_0 numel1_S1 (pfN (F := F) T0 T1) i a = ![min (i 1).val ((T1 (ix1 0)).toNat - 1), 0] a := by
  have h := i1_lt i
  have hlo := g.lo
  have hhi := g.hi
  fin_cases a
  · refine (congrArg (fun w : BitVec 32 => (IntOp.minsi (BitVec.ofNat 32 (i 1).val) (w - 1#32)).toNat) (at1 (F := F) T0 T1)).trans ?_
    beta_reduce
    show _ = min (i 1).val ((T1 (ix1 0)).toNat - 1)
    have e : (T1 (ix1 0) - 1#32).toNat = (T1 (ix1 0)).toNat - 1 := by
      rw [BitVec.toNat_sub]; simp; omega
    unfold IntOp.minsi
    rw [BitVec.slt, word_toInt _ (by omega), toInt_small _ (by omega), e]
    split <;> rename_i hc <;> simp only [decide_eq_true_eq] at hc
    · rw [word_toNat _ h]; omega
    · rw [e]; omega
  · rfl

theorem tr1 (a : Fin 3) : cc0_transform_1 k0_off1_inb numel1_S1 (pfN (F := F) T0 T1) i a = ![(T0 (ix1 (tileOf i))).toNat, 0, (i 0).val] a := by
  have h := i0_lt i
  fin_cases a
  · exact congrArg BitVec.toNat (at0 (F := F) T0 T1 i)
  · rfl
  · exact word_toNat _ (by omega)

theorem tr2 (a : Fin 3) : cc0_transform_2 k0_off1_inb numel1_S1 (pfN (F := F) T0 T1) i a = ![(T0 (ix1 (tileOf i))).toNat, 0, 4 + (i 0).val] a := by
  have h := i0_lt i
  fin_cases a
  · exact congrArg BitVec.toNat (at0 (F := F) T0 T1 i)
  · rfl
  · show (4#32 + BitVec.ofNat 32 (i 0).val).toNat = 4 + (i 0).val
    rw [BitVec.toNat_add, word_toNat _ (by omega)]; simp; omega

theorem tr3 (a : Fin 3) : cc0_transform_3 k0_off1_inb numel1_S1 (pfN (F := F) T0 T1) i a = ![(T0 (ix1 (tileOf i))).toNat, 0, (i 0).val] a := tr1 T0 T1 i a

theorem tr4 (a : Fin 3) : cc0_transform_4 k0_off1_inb numel1_S1 (pfN (F := F) T0 T1) i a = ![(T0 (ix1 (tileOf i))).toNat, 0, 4 + (i 0).val] a := tr2 T0 T1 i a

theorem tr5 (a : Fin 2) : cc0_transform_5 i a = ![(i 1).val, (i 0).val] a := by
  have h := i0_lt i
  have h' := i1_lt i
  fin_cases a
  · exact word_toNat _ h'
  · exact word_toNat _ (by omega)

/-- Every block lies inside its array. -/
theorem ok_of_good (g : Good T0 T1) : ok0 (pfN (F := F) T0 T1) := by
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  · rw [tr0 T0 T1 i g]
    have h := i1_lt i
    fin_cases a
    · show (min (i 1).val ((T1 (ix1 0)).toNat - 1) + 1) * 512 ≤ 146944; omega
    · show (0 + 1) * 1024 ≤ 1024; omega
  all_goals
    have hk := g.exp (tileOf i)
    have h := i0_lt i
  · rw [tr1]
    fin_cases a
    · show ((T0 (ix1 (tileOf i))).toNat + 1) * 1 ≤ 32; omega
    · show (0 + 1) * 2048 ≤ 2048; omega
    · show ((i 0).val + 1) * 512 ≤ 4096; omega
  · rw [tr2]
    fin_cases a
    · show ((T0 (ix1 (tileOf i))).toNat + 1) * 1 ≤ 32; omega
    · show (0 + 1) * 2048 ≤ 2048; omega
    · show (4 + (i 0).val + 1) * 512 ≤ 4096; omega
  · rw [tr3]
    fin_cases a
    · show ((T0 (ix1 (tileOf i))).toNat + 1) * 1 ≤ 32; omega
    · show (0 + 1) * 1 ≤ 1; omega
    · show ((i 0).val + 1) * 512 ≤ 4096; omega
  · rw [tr4]
    fin_cases a
    · show ((T0 (ix1 (tileOf i))).toNat + 1) * 1 ≤ 32; omega
    · show (0 + 1) * 1 ≤ 1; omega
    · show (4 + (i 0).val + 1) * 512 ≤ 4096; omega

/-- A bit, widened and compared with zero, is itself. -/
theorem bit_ne (b : BitVec 1) : Scalar.cmpi .ne (Scalar.extui b) 0#32 = 1#1 ↔ b = 1#1 :=
  (by decide : ∀ b : BitVec 1, Scalar.cmpi .ne (Scalar.extui b) 0#32 = 1#1 ↔ b = 1#1) b

/-- Where the scratch buffers are kept, the tile is not the first and its expert is the tile before's. -/
theorem not_refill (h : ¬refill (F := F) i T0 = 1#1) : (i 1).val ≠ 0 ∧ T0 (ix1 (tileOf i)) = T0 (ix1 (tilePrev i)) := by
  unfold refill at h
  rw [wCur_eq, wPrev_eq, bit_ne] at h
  refine ⟨fun h0 => h ?_, not_not.mp fun hne => h ?_⟩
  · rw [h0]
    exact (by decide : ∀ b : BitVec 1, Scalar.ori (Scalar.cmpi .eq (BitVec.ofNat 32 0) 0#32) b = 1#1) _
  · rw [show Scalar.cmpi .ne (T0 (ix1 (tileOf i))) (T0 (ix1 (tilePrev i))) = 1#1 from (cmpi_ne_eq _ _).trans ((ofBool_decide_eq_one_iff _).mpr hne)]
    exact (by decide : ∀ b : BitVec 1, Scalar.ori b 1#1 = 1#1) _

/-- The body computes a tile exactly where the tile is used, -/
theorem cond2_iff (g : Good T0 T1) : k0_cond2 i (wMeta (F := F) T1) = 1#1 ↔ (i 1).val < (T1 (ix1 0)).toNat := by
  rw [wMeta_eq]
  unfold k0_cond2
  rw [bit_ne]
  show IntOp.cmpi .slt _ _ = 1#1 ↔ _
  have h := i1_lt i
  rw [cmpi_slt_eq, ofBool_decide_eq_one_iff, word_toInt _ (by omega), toInt_small _ g.hi]
  omega

/-- and stores zeros elsewhere. -/
theorem cond3_iff (g : Good T0 T1) : k0_cond3 i (wMeta (F := F) T1) = 1#1 ↔ ¬(i 1).val < (T1 (ix1 0)).toNat := by
  rw [wMeta_eq]
  unfold k0_cond3
  rw [bit_ne]
  show IntOp.cmpi .sge _ _ = 1#1 ↔ _
  have h := i1_lt i
  rw [cmpi_sge_eq, ofBool_decide_eq_one_iff, word_toInt _ (by omega), toInt_small _ g.hi]
  omega

end Cert.Proof.Up

end
-- ==== Proof.UpFrame.lean ====
/- The expert-product kernel's run: what every point leaves, and the frame. -/
module

public import proofs.«01_k».proof.Proof.UpTab
public import Idealize.ShloMosaic.Lib.Claim

@[expose] public section

set_option maxRecDepth 16384

noncomputable section

namespace Cert.Proof.Up

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the kernel starts: after the four reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem V_arg0 (c : Dev nD) : V m c main_arg0 = m ((c : Thread nD τ).loc main_arg0) := by unfold V; after_results
theorem V_arg1 (c : Dev nD) : V m c main_arg1 = m ((c : Thread nD τ).loc main_arg1) := by unfold V; after_results
theorem V_arg2 (c : Dev nD) : V m c main_arg2 = m ((c : Thread nD τ).loc main_arg2) := by unfold V; after_results
theorem V_arg3 (c : Dev nD) : V m c main_arg3 = m ((c : Thread nD τ).loc main_arg3) := by unfold V; after_results
theorem V_arg4 (c : Dev nD) : V m c main_arg4 = m ((c : Thread nD τ).loc main_arg4) := by unfold V; after_results

variable (T0 : S287.Idx → BitVec 32) (T1 : S1.Idx → BitVec 32) (g : Good T0 T1)

/-- The tables as the pipeline takes them. -/
def adm : (pcfg0 (F := F)).Adm := ⟨pfN T0 T1, ok_of_good T0 T1 g⟩
abbrev cfgA : Pipeline.Cfg sig Λ₀ := cfg0 (F := F) (adm T0 T1 g)
abbrev pcs : Fin 1 → Pipeline.Cfg sig Λ₀ := Pipeline.pin (pcfgs (F := F)) fun _ => adm T0 T1 g

/-- A point's coordinates. -/
abbrev crd (t : Fin (cfgA (F := F) T0 T1 g).N) : grid0.Coords := grid0.coords t

/-- The staging buffers at a point. -/
abbrev stg (t : Fin (cfgA (F := F) T0 T1 g).N) : Stg where
  a4 := spec0_0.stage ((cfgA T0 T1 g).slots t (0 : Fin 6))
  h4 := hstage0_0 (((cfgA T0 T1 g).slots t (0 : Fin 6)).cast nbuf0_0)
  a5 := spec0_1.stage ((cfgA T0 T1 g).slots t (1 : Fin 6))
  h5 := hstage0_1 (((cfgA T0 T1 g).slots t (1 : Fin 6)).cast nbuf0_1)
  a6 := spec0_2.stage ((cfgA T0 T1 g).slots t (2 : Fin 6))
  h6 := hstage0_2 (((cfgA T0 T1 g).slots t (2 : Fin 6)).cast nbuf0_2)
  a7 := spec0_3.stage ((cfgA T0 T1 g).slots t (3 : Fin 6))
  h7 := hstage0_3 (((cfgA T0 T1 g).slots t (3 : Fin 6)).cast nbuf0_3)
  a8 := spec0_4.stage ((cfgA T0 T1 g).slots t (4 : Fin 6))
  h8 := hstage0_4 (((cfgA T0 T1 g).slots t (4 : Fin 6)).cast nbuf0_4)
  a9 := spec0_5.stage ((cfgA T0 T1 g).slots t (5 : Fin 6))
  h9 := hstage0_5 (((cfgA T0 T1 g).slots t (5 : Fin 6)).cast nbuf0_5)

/-- Window `w`'s block at point `t`, read off its array. -/
def iblk (c : Dev nD) (w : Fin (cfgA (F := F) T0 T1 g).W) (t : Fin (cfgA (F := F) T0 T1 g).N) :
    (((cfgA T0 T1 g).win w).xblock ((cfgA T0 T1 g).grid.coords t)).Idx → Elt F ((cfgA (F := F) T0 T1 g).win w).elt :=
  (((cfgA T0 T1 g).win w).blk t).view.read (Elt F) (V m c (Pipeline.arrRef spec0 w))

/-- The input blocks at a point. -/
def blks (c : Dev nD) (t : Fin (cfgA (F := F) T0 T1 g).N) : Blk F :=
  ⟨iblk m T0 T1 g c (0 : Fin 6) t, iblk m T0 T1 g c (1 : Fin 6) t, iblk m T0 T1 g c (2 : Fin 6) t, iblk m T0 T1 g c (3 : Fin 6) t, iblk m T0 T1 g c (4 : Fin 6) t⟩

/-- What a point's body stores: its tile where the tile is used, zeros elsewhere. -/
def outAt (i : grid0.Coords) (b : Blk F) (T1 : S1.Idx → BitVec 32) : S512x512.Idx → Elt F .bf16 :=
  if k0_cond2 i (wMeta (F := F) T1) = 1#1 then tile b.x0 (k0_pay1 b.x1) (k0_pay2 b.x2) b.x3 b.x4 else k0_pay4

/-- Before point `n`, the scratch buffers hold what the point before left. -/
def Held (c : Dev nD) (n : ℕ) (u v : S2048x512.Idx → Elt F .bf16) : Prop :=
  ∀ h : 0 < n, ∀ h' : n - 1 < (cfgA (F := F) T0 T1 g).N,
    u = scr0.view.rep (k0_pay1 (blks m T0 T1 g c ⟨n - 1, h'⟩).x1) ∧ v = scr1.view.rep (k0_pay2 (blks m T0 T1 g c ⟨n - 1, h'⟩).x2)

/-- The invariant between points. -/
def Phi (c : Dev nD) (n : ℕ) : sProp 𝕄 :=
  iprop((∃ u v, ⌜Held m T0 T1 g c n u v⌝ ∗ (scr0.view.loc (c : Thread nD τ) ↦{fullShare} u) ∗ (scr1.view.loc (c : Thread nD τ) ↦{fullShare} v))
    ∗ (tab0.view.loc (c : Thread nD τ) ↦{fullShare.right} T0) ∗ (tab1.view.loc (c : Thread nD τ) ↦{fullShare.right} T1) ∗ (∃ r, prngReg c r))

/-- The proof data of the pipeline on core `c`. -/
def dats (_ : Fin 1) (c : Dev nD) : Dat τ (Elt F) Unit ℕ (UR sig nD τ) ℕ (cfgA (F := F) T0 T1 g) c where
  A w := V m c (Pipeline.arrRef spec0 w)
  after w t := match w with
    | ⟨0, _⟩ => iblk m T0 T1 g c (0 : Fin 6) t
    | ⟨1, _⟩ => iblk m T0 T1 g c (1 : Fin 6) t
    | ⟨2, _⟩ => iblk m T0 T1 g c (2 : Fin 6) t
    | ⟨3, _⟩ => iblk m T0 T1 g c (3 : Fin 6) t
    | ⟨4, _⟩ => iblk m T0 T1 g c (4 : Fin 6) t
    | ⟨5, _⟩ => outAt (crd T0 T1 g t) (blks m T0 T1 g c t) T1
  Φ t := Phi m T0 T1 g c t.val
  q w := Pipeline.shareOf spec0 w
  owed _ := 0

theorem A_eq (c : Dev nD) (w : Fin (cfgA (F := F) T0 T1 g).W) : (dats m T0 T1 g 0 c).A w = V m c (Pipeline.arrRef spec0 w) := by
  dsimp only [dats]

theorem after0 (c : Dev nD) (t : Fin (cfgA (F := F) T0 T1 g).N) : (dats m T0 T1 g 0 c).after (0 : Fin 6) t = iblk m T0 T1 g c (0 : Fin 6) t := by dsimp only [dats]
theorem after1 (c : Dev nD) (t : Fin (cfgA (F := F) T0 T1 g).N) : (dats m T0 T1 g 0 c).after (1 : Fin 6) t = iblk m T0 T1 g c (1 : Fin 6) t := by dsimp only [dats]
theorem after2 (c : Dev nD) (t : Fin (cfgA (F := F) T0 T1 g).N) : (dats m T0 T1 g 0 c).after (2 : Fin 6) t = iblk m T0 T1 g c (2 : Fin 6) t := by dsimp only [dats]
theorem after3 (c : Dev nD) (t : Fin (cfgA (F := F) T0 T1 g).N) : (dats m T0 T1 g 0 c).after (3 : Fin 6) t = iblk m T0 T1 g c (3 : Fin 6) t := by dsimp only [dats]
theorem after4 (c : Dev nD) (t : Fin (cfgA (F := F) T0 T1 g).N) : (dats m T0 T1 g 0 c).after (4 : Fin 6) t = iblk m T0 T1 g c (4 : Fin 6) t := by dsimp only [dats]
theorem after5 (c : Dev nD) (t : Fin (cfgA (F := F) T0 T1 g).N) : (dats m T0 T1 g 0 c).after (5 : Fin 6) t = outAt (crd T0 T1 g t) (blks m T0 T1 g c t) T1 := by dsimp only [dats]

theorem before0 (c : Dev nD) (t : Fin (cfgA (F := F) T0 T1 g).N) (d) : (dats m T0 T1 g 0 c).before (0 : Fin 6) t d = iblk m T0 T1 g c (0 : Fin 6) t :=
  ((dats m T0 T1 g 0 c).before_in_eq_fetched (0 : Fin 6) rfl (fun _ => rfl) (fun _ _ _ => rfl) (fun t => by rw [after0]; unfold Dat.blockOf iblk; rw [A_eq]) t d).trans
    (by unfold Dat.fetched Dat.blockOf iblk; rw [A_eq]; rfl)
theorem before1 (c : Dev nD) (t : Fin (cfgA (F := F) T0 T1 g).N) (d) : (dats m T0 T1 g 0 c).before (1 : Fin 6) t d = iblk m T0 T1 g c (1 : Fin 6) t :=
  ((dats m T0 T1 g 0 c).before_in_eq_fetched (1 : Fin 6) rfl (fun _ => rfl) (fun _ _ _ => rfl) (fun t => by rw [after1]; unfold Dat.blockOf iblk; rw [A_eq]) t d).trans
    (by unfold Dat.fetched Dat.blockOf iblk; rw [A_eq]; rfl)
theorem before2 (c : Dev nD) (t : Fin (cfgA (F := F) T0 T1 g).N) (d) : (dats m T0 T1 g 0 c).before (2 : Fin 6) t d = iblk m T0 T1 g c (2 : Fin 6) t :=
  ((dats m T0 T1 g 0 c).before_in_eq_fetched (2 : Fin 6) rfl (fun _ => rfl) (fun _ _ _ => rfl) (fun t => by rw [after2]; unfold Dat.blockOf iblk; rw [A_eq]) t d).trans
    (by unfold Dat.fetched Dat.blockOf iblk; rw [A_eq]; rfl)
theorem before3 (c : Dev nD) (t : Fin (cfgA (F := F) T0 T1 g).N) (d) : (dats m T0 T1 g 0 c).before (3 : Fin 6) t d = iblk m T0 T1 g c (3 : Fin 6) t :=
  ((dats m T0 T1 g 0 c).before_in_eq_fetched (3 : Fin 6) rfl (fun _ => rfl) (fun _ _ _ => rfl) (fun t => by rw [after3]; unfold Dat.blockOf iblk; rw [A_eq]) t d).trans
    (by unfold Dat.fetched Dat.blockOf iblk; rw [A_eq]; rfl)
theorem before4 (c : Dev nD) (t : Fin (cfgA (F := F) T0 T1 g).N) (d) : (dats m T0 T1 g 0 c).before (4 : Fin 6) t d = iblk m T0 T1 g c (4 : Fin 6) t :=
  ((dats m T0 T1 g 0 c).before_in_eq_fetched (4 : Fin 6) rfl (fun _ => rfl) (fun _ _ _ => rfl) (fun t => by rw [after4]; unfold Dat.blockOf iblk; rw [A_eq]) t d).trans
    (by unfold Dat.fetched Dat.blockOf iblk; rw [A_eq]; rfl)

/-- The coordinates of the points, in order: the column block outside, the tile inside. -/
theorem coords_eq : ∀ t : Fin grid0.N, (grid0.coords t 0).val = t.val / 287 ∧ (grid0.coords t 1).val = t.val % 287 := by decide +kernel

/-- Where the tile keeps the scratch buffers, its two weight blocks are the ones of the point before. -/
theorem kept (c : Dev nD) (t : Fin (cfgA (F := F) T0 T1 g).N) (h : ¬refill (F := F) (crd T0 T1 g t) T0 = 1#1) :
    0 < t.val ∧ ∀ h' : t.val - 1 < (cfgA (F := F) T0 T1 g).N,
      (blks m T0 T1 g c ⟨t.val - 1, h'⟩).x1 = (blks m T0 T1 g c t).x1 ∧ (blks m T0 T1 g c ⟨t.val - 1, h'⟩).x2 = (blks m T0 T1 g c t).x2 := by
  obtain ⟨hn, he⟩ := not_refill _ _ h
  obtain ⟨e0, e1⟩ := coords_eq t
  have ht : 0 < t.val := Nat.pos_of_ne_zero fun h0 => hn (by rw [e1, h0])
  refine ⟨ht, fun h' => ?_⟩
  obtain ⟨p0, p1⟩ := coords_eq ⟨t.val - 1, h'⟩
  have q0 : (crd T0 T1 g ⟨t.val - 1, h'⟩ 0).val = (crd T0 T1 g t 0).val := by
    rw [e1] at hn; rw [p0, e0]; dsimp only; omega
  have q1 : tileOf (crd T0 T1 g ⟨t.val - 1, h'⟩) = tilePrev (crd T0 T1 g t) := by
    refine Fin.ext ?_
    show (grid0.coords _ 1).val = (grid0.coords t 1).val - 1
    rw [e1] at hn; rw [p1, e1]; dsimp only; omega
  constructor
  · funext y
    refine congrArg (V m c main_v0) (funext fun a => Fin.ext ?_)
    show cc0_transform_1 k0_off1_inb numel1_S1 (pfN (F := F) T0 T1) (crd T0 T1 g ⟨t.val - 1, h'⟩) a * _ + _ = cc0_transform_1 k0_off1_inb numel1_S1 (pfN (F := F) T0 T1) (crd T0 T1 g t) a * _ + _
    rw [tr1, tr1, q0, q1, he]; rfl
  · funext y
    refine congrArg (V m c main_v0) (funext fun a => Fin.ext ?_)
    show cc0_transform_2 k0_off1_inb numel1_S1 (pfN (F := F) T0 T1) (crd T0 T1 g ⟨t.val - 1, h'⟩) a * _ + _ = cc0_transform_2 k0_off1_inb numel1_S1 (pfN (F := F) T0 T1) (crd T0 T1 g t) a * _ + _
    rw [tr2, tr2, q0, q1, he]; rfl

/-- The body's run at a point, from what the point before left. -/
theorem runs_at (c : Dev nD) (t : Fin (cfgA (F := F) T0 T1 g).N) (u v : S2048x512.Idx → Elt F .bf16) (h : Held m T0 T1 g c t.val u v) :
    Runs c (crd T0 T1 g t) (stg T0 T1 g t) (blks m T0 T1 g c t) T0 T1 u v (outAt (crd T0 T1 g t) (blks m T0 T1 g c t) T1)
      (scr0.view.rep (k0_pay1 (blks m T0 T1 g c t).x1)) (scr1.view.rep (k0_pay2 (blks m T0 T1 g c t).x2)) := by
  by_cases h2 : k0_cond2 (crd T0 T1 g t) (wMeta (F := F) T1) = 1#1
  · have h3 : ¬k0_cond3 (crd T0 T1 g t) (wMeta (F := F) T1) = 1#1 := fun h3 => (cond3_iff T0 T1 _ g).mp h3 ((cond2_iff T0 T1 _ g).mp h2)
    unfold outAt; rw [if_pos h2]
    by_cases hr : refill (F := F) (crd T0 T1 g t) T0 = 1#1
    · exact runs_new_used c _ _ _ T0 T1 u v hr h2 h3
    · obtain ⟨hp, hk⟩ := kept m T0 T1 g c t hr
      have h' : t.val - 1 < (cfgA (F := F) T0 T1 g).N := lt_of_le_of_lt (Nat.sub_le _ _) t.isLt
      obtain ⟨eu, ev⟩ := h hp h'
      rw [(hk h').1] at eu; rw [(hk h').2] at ev
      subst eu; subst ev
      exact runs_old_used c _ _ _ T0 T1 _ _ hr h2 h3
  · have h3 : k0_cond3 (crd T0 T1 g t) (wMeta (F := F) T1) = 1#1 := (cond3_iff T0 T1 _ g).mpr fun h => h2 ((cond2_iff T0 T1 _ g).mpr h)
    unfold outAt; rw [if_neg h2]
    by_cases hr : refill (F := F) (crd T0 T1 g t) T0 = 1#1
    · exact runs_new_idle c _ _ _ T0 T1 u v hr h2 h3
    · obtain ⟨hp, hk⟩ := kept m T0 T1 g c t hr
      have h' : t.val - 1 < (cfgA (F := F) T0 T1 g).N := lt_of_le_of_lt (Nat.sub_le _ _) t.isLt
      obtain ⟨eu, ev⟩ := h hp h'
      rw [(hk h').1] at eu; rw [(hk h').2] at ev
      subst eu; subst ev
      exact runs_old_idle c _ _ _ T0 T1 _ _ hr h2 h3

/-- Every point stores into its block of the result. -/
theorem idle5 (t : Fin (cfgA (F := F) T0 T1 g).N) : (cfgA (F := F) T0 T1 g).idle (5 : Fin 6) ((cfgA (F := F) T0 T1 g).grid.coords t) = false := by
  have e : (pfN (F := F) T0 T1).atD 1 ![0] = wMeta (F := F) T1 := by
    rw [wMeta_eq]
    refine (dif_pos (show ∀ a, (![0] : Fin 1 → ℕ) a + 1 ≤ S1.size a by decide)).trans ?_
    refine congrArg T1 (funext fun a => Fin.ext ?_)
    fin_cases a
    rfl
  show (!(k0_cond2 (crd T0 T1 g t) ((pfN (F := F) T0 T1).atD 1 ![0]) == 1#1) && !(k0_cond3 (crd T0 T1 g t) ((pfN (F := F) T0 T1).atD 1 ![0]) == 1#1)) = false
  rw [e]
  by_cases h : (crd T0 T1 g t 1).val < (T1 (ix1 0)).toNat
  · rw [(cond2_iff T0 T1 _ g).mpr h]; rfl
  · rw [(cond3_iff T0 T1 _ g).mpr h]; simp

/-- The body at point `t` on its staging buffers. -/
abbrev bodyAt (t : Fin (cfgA (F := F) T0 T1 g).N) : Prog (TpuEff nD τ sig (Elt F) Λ₀ .tc) PUnit :=
  cc0_moe_gate_up (crd T0 T1 g t) tab0 (Memref.isWhole_whole _) tab1 (Memref.isWhole_whole _) (stg T0 T1 g t).a4 (stg T0 T1 g t).h4 (stg T0 T1 g t).a5 (stg T0 T1 g t).h5
    (stg T0 T1 g t).a6 (stg T0 T1 g t).h6 (stg T0 T1 g t).a7 (stg T0 T1 g t).h7 (stg T0 T1 g t).a8 (stg T0 T1 g t).h8 (stg T0 T1 g t).a9 (stg T0 T1 g t).h9
    scr0 (Memref.isWhole_whole _) scr1 (Memref.isWhole_whole _)

theorem held_next (c : Dev nD) (t : Fin (cfgA (F := F) T0 T1 g).N) : Held m T0 T1 g c (t.val + 1)
    (scr0.view.rep (k0_pay1 (blks m T0 T1 g c t).x1)) (scr1.view.rep (k0_pay2 (blks m T0 T1 g c t).x2)) := by
  intro _ h'
  have e : (⟨t.val + 1 - 1, h'⟩ : Fin (cfgA (F := F) T0 T1 g).N) = t := Fin.ext (Nat.add_sub_cancel _ _)
  rw [e]
  exact ⟨rfl, rfl⟩

/-- The body at a point, over the buffers it holds. -/
theorem sound_on (c : Dev nD) (i : grid0.Coords) (s : Stg) (b : Blk F) (P P' : (S2048x512.Idx → Elt F .bf16) → (S2048x512.Idx → Elt F .bf16) → Prop)
    (o : S512x512.Idx → Elt F .bf16)
    (hr : ∀ u v, P u v → Runs c i s b T0 T1 u v o (scr0.view.rep (k0_pay1 b.x1)) (scr1.view.rep (k0_pay2 b.x2)))
    (hn : P' (scr0.view.rep (k0_pay1 b.x1)) (scr1.view.rep (k0_pay2 b.x2))) (K : PUnit → sProp 𝕄) :
    iprop(((∃ u v, ⌜P u v⌝ ∗ (scr0.view.loc (c : Thread nD τ) ↦{fullShare} u) ∗ (scr1.view.loc (c : Thread nD τ) ↦{fullShare} v))
          ∗ (tab0.view.loc (c : Thread nD τ) ↦{fullShare.right} T0) ∗ (tab1.view.loc (c : Thread nD τ) ↦{fullShare.right} T1) ∗ (∃ r, prngReg c r))
        ∗ owns (c : Thread nD τ) s.a4 fullShare b.x0
        ∗ owns (c : Thread nD τ) s.a5 fullShare b.x1
        ∗ owns (c : Thread nD τ) s.a6 fullShare b.x2
        ∗ owns (c : Thread nD τ) s.a7 fullShare b.x3
        ∗ owns (c : Thread nD τ) s.a8 fullShare b.x4
        ∗ (∃ d, owns (c : Thread nD τ) s.a9 fullShare d)
        ∗ (iprop(((∃ u v, ⌜P' u v⌝ ∗ (scr0.view.loc (c : Thread nD τ) ↦{fullShare} u) ∗ (scr1.view.loc (c : Thread nD τ) ↦{fullShare} v))
            ∗ (tab0.view.loc (c : Thread nD τ) ↦{fullShare.right} T0) ∗ (tab1.view.loc (c : Thread nD τ) ↦{fullShare.right} T1) ∗ (∃ r, prngReg c r))
            ∗ owns (c : Thread nD τ) s.a4 fullShare b.x0
            ∗ owns (c : Thread nD τ) s.a5 fullShare b.x1
            ∗ owns (c : Thread nD τ) s.a6 fullShare b.x2
            ∗ owns (c : Thread nD τ) s.a7 fullShare b.x3
            ∗ owns (c : Thread nD τ) s.a8 fullShare b.x4
            ∗ owns (c : Thread nD τ) s.a9 fullShare o) -∗ K ⟨⟩))
      ⊢ wp frame (wpE (defs₀ (F := F)) Variants.none c none) Set.univ
          (cc0_moe_gate_up i tab0 (Memref.isWhole_whole _) tab1 (Memref.isWhole_whole _) s.a4 s.h4 s.a5 s.h5 s.a6 s.h6 s.a7 s.h7 s.a8 s.h8 s.a9 s.h9
            scr0 (Memref.isWhole_whole _) scr1 (Memref.isWhole_whole _)) K := by
  iintro ⟨⟨⟨%u, %v, %huv, HS0, HS1⟩, HT0, HT1, Hg⟩, H0, H1, H2, H3, H4, H5, HK⟩
  iapply (hr u v huv _)
  unfold held
  isplitl [H0 H1 H2 H3 H4 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    iexact HT1
  isplitl [H5]; · iexact H5
  isplitl [HS0]; · iexact HS0
  isplitl [HS1]; · iexact HS1
  iintro ⟨⟨H0, H1, H2, H3, H4, HT0, HT1⟩, H5, HS0, HS1⟩
  iapply HK
  isplitl [HS0 HS1 HT0 HT1 Hg]
  · isplitl [HS0 HS1]
    · iexists (scr0.view.rep (k0_pay1 b.x1)); iexists (scr1.view.rep (k0_pay2 b.x2))
      isplitr; · ipureintro; exact hn
      isplitl [HS0]; · iexact HS0
      iexact HS1
    isplitl [HT0]; · iexact HT0
    isplitl [HT1]; · iexact HT1
    iexact Hg
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

/-- The body at a point, over the pipeline's buffers. -/
theorem sound_core (c : Dev nD) (t : Fin (cfgA (F := F) T0 T1 g).N) (K : PUnit → sProp 𝕄) :
    iprop(Phi m T0 T1 g c t.val
        ∗ owns (c : Thread nD τ) (stg T0 T1 g t).a4 fullShare (blks m T0 T1 g c t).x0
        ∗ owns (c : Thread nD τ) (stg T0 T1 g t).a5 fullShare (blks m T0 T1 g c t).x1
        ∗ owns (c : Thread nD τ) (stg T0 T1 g t).a6 fullShare (blks m T0 T1 g c t).x2
        ∗ owns (c : Thread nD τ) (stg T0 T1 g t).a7 fullShare (blks m T0 T1 g c t).x3
        ∗ owns (c : Thread nD τ) (stg T0 T1 g t).a8 fullShare (blks m T0 T1 g c t).x4
        ∗ (∃ d, owns (c : Thread nD τ) (stg T0 T1 g t).a9 fullShare d)
        ∗ (iprop(Phi m T0 T1 g c (t.val + 1)
            ∗ owns (c : Thread nD τ) (stg T0 T1 g t).a4 fullShare (blks m T0 T1 g c t).x0
            ∗ owns (c : Thread nD τ) (stg T0 T1 g t).a5 fullShare (blks m T0 T1 g c t).x1
            ∗ owns (c : Thread nD τ) (stg T0 T1 g t).a6 fullShare (blks m T0 T1 g c t).x2
            ∗ owns (c : Thread nD τ) (stg T0 T1 g t).a7 fullShare (blks m T0 T1 g c t).x3
            ∗ owns (c : Thread nD τ) (stg T0 T1 g t).a8 fullShare (blks m T0 T1 g c t).x4
            ∗ owns (c : Thread nD τ) (stg T0 T1 g t).a9 fullShare (outAt (crd T0 T1 g t) (blks m T0 T1 g c t) T1)) -∗ K ⟨⟩))
      ⊢ wp frame (wpE (defs₀ (F := F)) Variants.none c none) Set.univ (bodyAt T0 T1 g t) K := by
  unfold Phi bodyAt
  exact sound_on T0 T1 c _ _ _ _ _ _ (runs_at m T0 T1 g c t) (held_next m T0 T1 g c t) K

theorem phi_castSucc (c : Dev nD) (t : Fin (cfgA (F := F) T0 T1 g).N) : (dats m T0 T1 g 0 c).Φ t.castSucc = Phi m T0 T1 g c t.val := by
  dsimp only [dats, Fin.val_castSucc]

theorem phi_succ (c : Dev nD) (t : Fin (cfgA (F := F) T0 T1 g).N) : (dats m T0 T1 g 0 c).Φ t.succ = Phi m T0 T1 g c (t.val + 1) := by
  dsimp only [dats, Fin.val_succ]

theorem owes_succ (c : Dev nD) (t : Fin (cfgA (F := F) T0 T1 g).N) : (dats m T0 T1 g 0 c).owesAt () t.succ = (dats m T0 T1 g 0 c).owesAt () t.castSucc := by
  unfold Dat.owesAt
  dsimp only [Dat.bound]
  unfold dats; dsimp only

set_option maxHeartbeats 4000000 in
/-- The body at a point: from the invariant and the blocks, to the invariant and the point's results. -/
theorem sound_body (c : Dev nD) (t : Fin (cfgA (F := F) T0 T1 g).N) :
    iprop((dats m T0 T1 g 0 c).Φ t.castSucc ∗ (dats m T0 T1 g 0 c).owesAt () t.castSucc
        ∗ (∃ d, owns (c : Thread nD τ) (stg T0 T1 g t).a4 fullShare ((dats m T0 T1 g 0 c).before (0 : Fin 6) t d))
        ∗ (∃ d, owns (c : Thread nD τ) (stg T0 T1 g t).a5 fullShare ((dats m T0 T1 g 0 c).before (1 : Fin 6) t d))
        ∗ (∃ d, owns (c : Thread nD τ) (stg T0 T1 g t).a6 fullShare ((dats m T0 T1 g 0 c).before (2 : Fin 6) t d))
        ∗ (∃ d, owns (c : Thread nD τ) (stg T0 T1 g t).a7 fullShare ((dats m T0 T1 g 0 c).before (3 : Fin 6) t d))
        ∗ (∃ d, owns (c : Thread nD τ) (stg T0 T1 g t).a8 fullShare ((dats m T0 T1 g 0 c).before (4 : Fin 6) t d))
        ∗ (∃ d, owns (c : Thread nD τ) (stg T0 T1 g t).a9 fullShare ((dats m T0 T1 g 0 c).before (5 : Fin 6) t d)))
      ⊢ wp frame (wpE (defs₀ (F := F)) Variants.none c none) Set.univ (bodyAt T0 T1 g t) fun _ =>
          iprop((dats m T0 T1 g 0 c).Φ t.succ ∗ (dats m T0 T1 g 0 c).owesAt () t.succ
            ∗ bigSep Finset.univ fun w : Fin (cfgA (F := F) T0 T1 g).W =>
                match (cfgA (F := F) T0 T1 g).idle w ((cfgA (F := F) T0 T1 g).grid.coords t) with
                | true =>
                  match ((cfgA (F := F) T0 T1 g).win w).flush t with
                  | false => iprop(∃ d, owns (c : Thread nD τ) (((cfgA (F := F) T0 T1 g).win w).stage ((cfgA T0 T1 g).slots t w)) fullShare ((dats m T0 T1 g 0 c).before w t d))
                  | true => owns (c : Thread nD τ) (((cfgA (F := F) T0 T1 g).win w).stage ((cfgA T0 T1 g).slots t w)) fullShare ((dats m T0 T1 g 0 c).after w t)
                | false => owns (c : Thread nD τ) (((cfgA (F := F) T0 T1 g).win w).stage ((cfgA T0 T1 g).slots t w)) fullShare ((dats m T0 T1 g 0 c).after w t)) := by
  rw [bigSep_W0]
  rewrite [idle5 T0 T1 g t]
  simp only [before0, before1, before2, before3, before4, after0, after1, after2, after3, after4, after5]
  rewrite [phi_succ, phi_castSucc, owes_succ]
  iintro ⟨HP, Ho, ⟨%d0, H0⟩, ⟨%d1, H1⟩, ⟨%d2, H2⟩, ⟨%d3, H3⟩, ⟨%d4, H4⟩, ⟨%d5, H5⟩⟩
  iapply (sound_core m T0 T1 g c t _)
  isplitl [HP]; · iexact HP
  isplitl [H0]; · iexact H0
  isplitl [H1]; · iexact H1
  isplitl [H2]; · iexact H2
  isplitl [H3]; · iexact H3
  isplitl [H4]; · iexact H4
  isplitl [H5]; · iexists _; iexact H5
  iintro ⟨HP, H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin (cfgA (F := F) T0 T1 g).N) :
    defs₀ (F := F) .tc (cfgA T0 T1 g).body ((cfgA (F := F) T0 T1 g).bodyArgs t ((cfgA T0 T1 g).slots t)) = bodyAt T0 T1 g t := by
  unfold defs₀; rw [Defs.onTc_tc]

theorem body_obligation (c : Dev nD) : BodyObligation (dats (F := F) m T0 T1 g 0 c) (defs₀ (F := F)) Variants.none () Set.univ := fun t => by
  rw [bigSep_W0, defs₀_row]
  exact triple_restated (sound_body m T0 T1 g c t) rfl .rfl fun _ => .rfl

/-- The tables as the launch hands them to the body. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) : iprop(Pipeline.ΦA spec0 c ∗ Pipeline.ΦT pre0 (adm (F := F) T0 T1 g).1 c) ⊢ (dats m T0 T1 g 0 c).Φ 0 := by
  unfold Pipeline.ΦA Pipeline.ΦT
  rw [prefHeld_eq, scopedRest0_eq, show (dats m T0 T1 g 0 c).Φ 0 = Phi m T0 T1 g c 0 from rfl]
  unfold Phi
  iintro ⟨⟨⟨⟨%u, HS0⟩, ⟨%v, HS1⟩⟩, Hg⟩, HT0, HT1⟩
  isplitl [HS0 HS1]
  · iexists u; iexists v
    isplitr; · ipureintro; intro h; exact absurd h (lt_irrefl _)
    isplitl [HS0]; · iexact HS0
    iexact HS1
  isplitl [HT0]; · iexact HT0
  isplitl [HT1]; · iexact HT1
  iexact Hg

theorem phi_out (c : Dev nD) : (dats (F := F) m T0 T1 g 0 c).Φ (Fin.last (cfgA (F := F) T0 T1 g).N) ⊢ Pipeline.ΦA spec0 c := by
  unfold Pipeline.ΦA
  rw [scopedRest0_eq, show (dats m T0 T1 g 0 c).Φ (Fin.last (cfgA (F := F) T0 T1 g).N) = Phi m T0 T1 g c (cfgA (F := F) T0 T1 g).N from rfl]
  unfold Phi
  iintro ⟨⟨%u, %v, -, HS0, HS1⟩, -, -, Hg⟩
  isplitl [HS0 HS1]
  · isplitl [HS0]
    · iexists u; iexact HS0
    iexists v; iexact HS1
  iexact Hg

/-- The tables the memory holds are the ones the pipeline runs at. -/
def Pinned : Prop := ∀ c : Dev nD, m ((c : Thread nD τ).loc main_arg0) = T0 ∧ m ((c : Thread nD τ).loc main_arg1) = T1

include g in
theorem V_pre (hp : Pinned m T0 T1) (c : Dev nD) (j : Fin 2) : V m c (pre0.ref j) = (adm (F := F) T0 T1 g).1 j := by
  fin_cases j
  · exact (V_arg0 m c).trans (hp c).1
  · exact (V_arg1 m c).trans (hp c).2

set_option backward.isDefEq.respectTransparency.types false in
set_option maxHeartbeats 4000000 in
/-- The run: every array ends at what the pipeline computes, every other buffer as the kernel found it, every counter at zero. -/
theorem run (hp : Pinned m T0 T1) : θ_run (defs (F := F)) (onTc (τ := τ) (main (F := F))) (s₀ m ρ)
    (fun r => Pipeline.FramePost (pcs T0 T1 g) (dats m T0 T1 g) 0 (V m) r ∧ r.2.sem = fun _ => 0) :=
  Pipeline.θ_run_frameP_track_shared (Q' := _) pcfgs (fun _ => adm T0 T1 g) (dats m T0 T1 g) (0 : Fin 1) launch₀0 defs₀ Variants.none m ρ main
    (hbody := fun c => (body_obligation m T0 T1 g c).loose) (hq := fun _ _ _ => rfl) (howed := fun _ _ => rfl) (V := V m)
    (hmain := Pipeline.hmainP_prefix pcfgs 0 defs₀ Variants.none m main hostOps0 hostOps0_sub hostOps0_fresh main_chain)
    (hA := A_eq m T0 T1 g) (hpf := V_pre m T0 T1 g hp) (hin := phi_in m T0 T1 g) (hout := phi_out m T0 T1 g)

/-- What the run ends with leaves the arguments as they were. -/
theorem args_kept (r : PUnit × MemSt nD τ sig (Elt F)) (h : Pipeline.FramePost (pcs T0 T1 g) (dats m T0 T1 g) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (show ∀ w : Fin 6, (spec0 w).arr.view.ref ≠ main_arg0 by decide))).trans (V_arg0 m c),
   ((h c).2 main_arg1 (Pipeline.mem_restRefs_of main_arg1 (by decide) (show ∀ w : Fin 6, (spec0 w).arr.view.ref ≠ main_arg1 by decide))).trans (V_arg1 m c),
   ((h c).1 (0 : Fin 6)).trans (((dats m T0 T1 g 0 c).arrAt_in (0 : Fin 6) rfl _).trans ((A_eq m T0 T1 g c 0).trans (V_arg2 m c))),
   ((h c).2 main_arg3 (Pipeline.mem_restRefs_of main_arg3 (by decide) (show ∀ w : Fin 6, (spec0 w).arr.view.ref ≠ main_arg3 by decide))).trans (V_arg3 m c),
   ((h c).2 main_arg4 (Pipeline.mem_restRefs_of main_arg4 (by decide) (show ∀ w : Fin 6, (spec0 w).arr.view.ref ≠ main_arg4 by decide))).trans (V_arg4 m c)⟩

include g in
/-- The arguments end unchanged, and every counter at zero. -/
theorem frame_at (hp : Pinned m T0 T1) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨args_kept m T0 T1 g r h.1, h.2⟩) (run m ρ T0 T1 g hp)

end Cert.Proof.Up

end
-- ==== Proof.UpPre.lean ====
/- What the precondition on the tables says. -/
module

public import proofs.«01_k».proof.Proof.UpFrame
public import proofs.«01_k».proof.Proof.Gen.Pre_tables_up
public import Idealize.ShloMosaic.Lib.ReduceAll
public import Idealize.ShloMosaic.Lib.WordCmp
public import Idealize.ShloMosaic.Lib.Pointwise

@[expose] public section

noncomputable section

namespace Cert.Proof.Up

open Idealize.ShloMosaic Idealize.ShloMosaic.WordCmp

/-- A word between zero and `n`, both compared as signed numbers, is a number between them. -/
theorem word_range (x a b : BitVec 32) (ha : a.toNat < 2 ^ 31) (hb : b.toNat < 2 ^ 31)
    (h : IntOp.andi (IntOp.cmpi .sge x a) (IntOp.cmpi .sle x b) = 1#1) : a.toNat ≤ x.toNat ∧ x.toNat ≤ b.toNat := by
  obtain ⟨h1, h2⟩ := IntOp.andi_eq_one.mp h
  rw [cmpi_sge_eq, ofBool_decide_eq_one_iff, BitVec.toInt_eq_toNat_cond, BitVec.toInt_eq_toNat_cond] at h1
  rw [cmpi_sle_eq, ofBool_decide_eq_one_iff, BitVec.toInt_eq_toNat_cond, BitVec.toInt_eq_toNat_cond] at h2
  constructor <;> omega

/-- The same where the upper comparison is strict. -/
theorem word_range' (x a b : BitVec 32) (ha : a.toNat < 2 ^ 31) (hb : b.toNat < 2 ^ 31)
    (h : IntOp.andi (IntOp.cmpi .sge x a) (IntOp.cmpi .slt x b) = 1#1) : a.toNat ≤ x.toNat ∧ x.toNat < b.toNat := by
  obtain ⟨h1, h2⟩ := IntOp.andi_eq_one.mp h
  rw [cmpi_sge_eq, ofBool_decide_eq_one_iff, BitVec.toInt_eq_toNat_cond, BitVec.toInt_eq_toNat_cond] at h1
  rw [cmpi_slt_eq, ofBool_decide_eq_one_iff, BitVec.toInt_eq_toNat_cond, BitVec.toInt_eq_toNat_cond] at h2
  constructor <;> omega

/-- The precondition says that the tables are in range. -/
theorem good_of_pre {F : FTy → Type} [FloatOps F] (T0 : IVec Cert.Pre_tables_up.S287 32) (T1 : IVec Cert.Pre_tables_up.S1 32) (x) (w) (b)
    (h : Cert.Pre_tables_up.fn (F := F) T0 T1 x w b = fun _ => 1#1) : Good T0 T1 := by
  have h := congrFun h (fun a => a.elim0)
  unfold Cert.Pre_tables_up.fn at h
  dsimp only at h
  obtain ⟨h0, h1⟩ := IntOp.andi_eq_one.mp h
  haveI : Subsingleton Cert.Pre_tables_up.S_.Idx := ⟨fun a b => funext fun k => k.elim0⟩
  have e0 := Host.reduce_andi_all _ _ _ _ _ h0
  have e1 := Host.reduce_andi_all _ _ _ _ _ h1
  refine ⟨fun k => ?_, ?_, ?_⟩
  · exact (word_range' (T0 (ix1 k)) 0#32 32#32 (by decide) (by decide) (e0 (ix1 k))).2
  · exact (word_range (T1 (ix1 0)) 1#32 287#32 (by decide) (by decide) (e1 (ix1 0))).1
  · exact (word_range (T1 (ix1 0)) 1#32 287#32 (by decide) (by decide) (e1 (ix1 0))).2

end Cert.Proof.Up

end
-- ==== Proof.UpBitsRun.lean ====
/- The expert products' kernel on machine words: its frame. -/
module

public import proofs.«01_k».proof.Proof.UpBitsFrame
public import proofs.«01_k».proof.Proof.UpPre
public import proofs.«01_k».proof.Defs

@[expose] public section

noncomputable section

namespace Cert.Proof.UpBits

open Cert.Up
open Idealize.ShloMosaic Idealize.ShloMosaic.TcCoe Idealize.SL.Sem

variable (m : (ℓ : Loc nD τ sig) → Buf (Elt Bits) ℓ)

/-- The tables are the ones device 0 holds. -/
theorem pinned : Pinned m (m (((0 : Dev nD) : Thread nD τ).loc main_arg0)) (m (((0 : Dev nD) : Thread nD τ).loc main_arg1)) := fun c => by
  obtain rfl : c = 0 := Subsingleton.elim _ _
  exact ⟨rfl, rfl⟩

/-- The kernel ends with its arguments unchanged and every counter at zero. -/
theorem frame : Cert.quiescent_Up (hUp := Cert.Up.Gen.facts) (hPre_tables_up := Cert.Pre_tables_up.Gen.facts) := fun m ρ h => by
  have g := Cert.Proof.Up.good_of_pre (F := Bits) _ _ _ _ _ (h 0)
  exact frame_at m ρ _ _ ⟨g.exp, g.lo, g.hi⟩ (pinned m)

end Cert.Proof.UpBits

end
-- ==== Proof.UpMath.lean ====
/- The numbers of the expert products: packed pairs and the gated unit. -/
module

public import Idealize.ShloMosaic.PureOps.Ideal
public import Idealize.ShloMosaic.PureOps.IdealRules
public import Idealize.ShloMosaic.Lib.IdealHost

@[expose] public section

noncomputable section

namespace Cert.Proof.UpMath

open Idealize.ShloMosaic

/-- A 32-bit pattern whose fields are a 16-bit pattern's, over zeros, denotes the same number. -/
theorem ieee_of (w : BitVec 32) (b : BitVec 16) (h1 : w.extractLsb' 31 1 = b.extractLsb' 15 1) (h2 : w.extractLsb' 23 8 = b.extractLsb' 7 8)
    (h3 : (w.extractLsb' 0 23).toNat = (b.extractLsb' 0 7).toNat * 2 ^ 16) : Ideal.ieee 8 23 w = Ideal.ieee 8 7 b := by
  unfold Ideal.ieee
  dsimp only
  rw [show 8 + 23 = 31 from rfl, show 8 + 7 = 15 from rfl, h1, h2, h3]
  generalize (b.extractLsb' 0 7).toNat = f
  generalize (b.extractLsb' 7 8).toNat = e
  generalize (if (b.extractLsb' 15 1 == 1#1) = true then (-1 : ℝ) else 1) = s
  have hf : f * 2 ^ 16 = 0 ↔ f = 0 := by omega
  simp only [hf]
  congr 1
  congr 1
  · congr 1
    push_cast
    rw [show (-133 : ℤ) = -149 + 16 by norm_num, zpow_add₀ (by norm_num : (2 : ℝ) ≠ 0)]
    norm_num
    ring
  · congr 1
    push_cast
    rw [show ((e : ℤ) - 127 - 7 : ℤ) = ((e : ℤ) - 127 - 23) + 16 by ring, zpow_add₀ (by norm_num : (2 : ℝ) ≠ 0)]
    norm_num
    ring

/-- The low half of a word, as a number. -/
theorem low_half (w : BitVec 32) : Ideal.ofBits .f32 (w <<< (16 : ℕ)) = Ideal.ofBits .bf16 (w.extractLsb' 0 16) := by
  refine ieee_of _ _ (BitVec.eq_of_toNat_eq ?_) (BitVec.eq_of_toNat_eq ?_) ?_ <;>
    simp only [BitVec.extractLsb'_toNat, BitVec.toNat_shiftLeft, Nat.shiftRight_eq_div_pow, Nat.shiftLeft_eq] <;> omega

/-- The high half of a word, as a number. -/
theorem high_half (w : BitVec 32) : Ideal.ofBits .f32 (w &&& 4294901760#32) = Ideal.ofBits .bf16 (w.extractLsb' 16 16) := by
  have e : w &&& 4294901760#32 = (w >>> (16 : ℕ)) <<< (16 : ℕ) := (IdealRules.bf16_pack.hi_of_shifts w).symm
  have hw := w.isLt
  rw [e]
  refine ieee_of _ _ (BitVec.eq_of_toNat_eq ?_) (BitVec.eq_of_toNat_eq ?_) ?_ <;>
    simp only [BitVec.extractLsb'_toNat, BitVec.toNat_shiftLeft, BitVec.toNat_ushiftRight, Nat.shiftRight_eq_div_pow, Nat.shiftLeft_eq] <;> omega

/-- The kernel's literal is the reference's with its sign turned. -/
theorem neg_alpha : Ideal.ofBits .f32 0xBFD9DB23#32 = -Ideal.ofBits .f32 0x3FD9DB23#32 := by
  simp [Ideal.ofBits, Ideal.ieee, -EReal.coe_mul]

/-- The gated unit as the kernel writes it. -/
def kAct (hg hu : EReal) : EReal :=
  FloatOps.mulf (F := Ideal) (φ := .f32) (FloatOps.mulf (F := Ideal) (φ := .f32)
      (FloatOps.addf (F := Ideal) (φ := .f32) (FloatOps.minimumf (F := Ideal) (φ := .f32) (Ideal.ofBits .f32 0x40E00000#32) (FloatOps.maximumf (F := Ideal) (φ := .f32) (Ideal.ofBits .f32 0xC0E00000#32) hu)) (Ideal.ofBits .f32 0x3F800000#32))
      (FloatOps.minimumf (F := Ideal) (φ := .f32) hg (Ideal.ofBits .f32 0x40E00000#32)))
    (FloatOps.divf (F := Ideal) (φ := .f32) (Ideal.ofBits .f32 0x3F800000#32) (FloatOps.addf (F := Ideal) (φ := .f32) (Ideal.ofBits .f32 0x3F800000#32)
      (Ideal.exp (FloatOps.mulf (F := Ideal) (φ := .f32) (Ideal.ofBits .f32 0xBFD9DB23#32) (FloatOps.minimumf (F := Ideal) (φ := .f32) hg (Ideal.ofBits .f32 0x40E00000#32))))))

/-- The gated unit as the reference writes it. -/
def rAct (hg hu : EReal) : EReal :=
  FloatOps.mulf (F := Ideal) (φ := .f32) (FloatOps.mulf (F := Ideal) (φ := .f32)
      (FloatOps.addf (F := Ideal) (φ := .f32) (FloatOps.minimumf (F := Ideal) (φ := .f32) (Ideal.ofBits .f32 0x40E00000#32) (FloatOps.maximumf (F := Ideal) (φ := .f32) (Ideal.ofBits .f32 0xC0E00000#32) hu)) (Ideal.ofBits .f32 0x3F800000#32))
      (FloatOps.minimumf (F := Ideal) (φ := .f32) hg (Ideal.ofBits .f32 0x40E00000#32)))
    (FloatOps.hostDivf (F := Ideal) (φ := .f32) (Ideal.ofBits .f32 0x3F800000#32) (FloatOps.addf (F := Ideal) (φ := .f32) (Ideal.ofBits .f32 0x3F800000#32)
      (FloatOps.hostUnary (F := Ideal) (φ := .f32) .exp (FloatOps.hostNegf (F := Ideal) (φ := .f32) (FloatOps.mulf (F := Ideal) (φ := .f32) (Ideal.ofBits .f32 0x3FD9DB23#32)
        (FloatOps.minimumf (F := Ideal) (φ := .f32) hg (Ideal.ofBits .f32 0x40E00000#32)))))))

/-- They are the same number. -/
theorem act_eq (hg hu : EReal) : kAct hg hu = rAct hg hu := by
  have h : ∀ g : EReal, FloatOps.mulf (F := Ideal) (φ := .f32) (Ideal.ofBits .f32 0xBFD9DB23#32) g
      = FloatOps.hostNegf (F := Ideal) (φ := .f32) (FloatOps.mulf (F := Ideal) (φ := .f32) (Ideal.ofBits .f32 0x3FD9DB23#32) g) := by
    intro g
    rw [neg_alpha]
    exact EReal.neg_mul _ _
  unfold kAct rAct
  rw [h]
  rfl

/-- The number a packed row holds at a position: first the low halves of its words, then the high halves. -/
def half (x : Fin 1024 → BitVec 32) (k : Fin 2048) : EReal :=
  if h : k.val < 1024 then Ideal.ofBits .bf16 ((x ⟨k.val, h⟩).extractLsb' 0 16) else Ideal.ofBits .bf16 ((x ⟨k.val - 1024, by omega⟩).extractLsb' 16 16)

/-- A packed row times a column of weights, plus the bias. -/
def lin (x : Fin 1024 → BitVec 32) (w : Fin 2048 → EReal) (b : EReal) : EReal := ∑ k, half x k * w k + b

end Cert.Proof.UpMath

end
-- ==== Proof.UpVal.lean ====
/- The expert-product kernel's tile, element by element. -/
module

public import proofs.«01_k».proof.Proof.UpFrame
public import proofs.«01_k».proof.Proof.UpMath
public import Idealize.ShloMosaic.Lib.Pointwise
public import Idealize.ShloMosaic.Lib.MatmulPlain

@[expose] public section

noncomputable section

namespace Cert.Proof.UpVal

open Cert.UpIdeal Cert.UpIdeal.Gen
open Idealize.ShloMosaic
open Cert.Proof.Up Cert.Proof.UpMath

/-- The unpacked rows: the halves of the words, as numbers. -/
theorem pay5_apply (x : Vec Ideal S512x1024 .i32) (r : Fin 512) (k : Fin 2048) :
    k0_pay5 (F := Ideal) x (ix2 r k) = half (fun l => x (ix2 r l)) k := by
  unfold half
  split
  next h =>
    rw [← low_half]
    pointwise [k0_pay5]
    rw [dif_pos h]
    rfl
  next h =>
    rw [← high_half]
    pointwise [k0_pay5]
    rw [dif_neg h]
    rfl

/-- The gate's weights, out of the block. -/
theorem pay1_apply (v : Vec Ideal S1x2048x512 .f32) (k : Fin 2048) (j : Fin 512) : k0_pay1 (F := Ideal) v (ix2 k j) = v (ix3 0 k j) := by
  pointwise [k0_pay1]

/-- The other factor's weights, out of the block. -/
theorem pay2_apply (v : Vec Ideal S1x2048x512 .f32) (k : Fin 2048) (j : Fin 512) : k0_pay2 (F := Ideal) v (ix2 k j) = v (ix3 0 k j) := by
  pointwise [k0_pay2]

/-- The gate's factor, bounded. -/
theorem pay6_apply (x : Vec Ideal S512x1024 .i32) (u : Vec Ideal S2048x512 .bf16) (p : Vec Ideal S1x1x512 .f32) (r : Fin 512) (j : Fin 512) :
    k0_pay6 (F := Ideal) x u p (ix2 r j)
      = FloatOps.minimumf (F := Ideal) (φ := .f32) (lin (fun l => x (ix2 r l)) (fun k => u (ix2 k j)) (p (ix3 0 0 j))) (Ideal.ofBits .f32 0x40E00000#32) := by
  unfold lin
  simp only [← pay5_apply]
  unfold k0_pay6
  generalize k0_pay5 (F := Ideal) x = y
  pointwise

/-- A tile: the gated unit of the two products. -/
theorem tile_apply (x : Vec Ideal S512x1024 .i32) (u v : Vec Ideal S2048x512 .bf16) (p q : Vec Ideal S1x1x512 .f32) (r : Fin 512) (j : Fin 512) :
    tile (F := Ideal) x u v p q (ix2 r j)
      = kAct (lin (fun l => x (ix2 r l)) (fun k => u (ix2 k j)) (p (ix3 0 0 j))) (lin (fun l => x (ix2 r l)) (fun k => v (ix2 k j)) (q (ix3 0 0 j))) := by
  unfold kAct
  rw [← pay6_apply]
  unfold lin tile k0_pay7 k0_pay8
  simp only [← pay5_apply]
  generalize k0_pay5 (F := Ideal) x = y
  generalize k0_pay6 (F := Ideal) x u p = z
  pointwise [k0_pay3, k0_pay9]

/-- An unused tile holds zeros. -/
theorem pay4_apply (y : S512x512.Idx) : k0_pay4 (F := Ideal) y = 0 := by
  unfold k0_pay4
  pointwise

end Cert.Proof.UpVal

end
-- ==== Proof.UpRef.lean ====
/- The expert products' reference, read out at an index. -/
module

public import proofs.«01_k».proof.Proof.UpMath
public import proofs.«01_k».proof.Proof.Gen.UpRefIdeal.Run
public import proofs.«01_k».proof.Proof.Gen.UpRefIdeal.Read
public import Idealize.ShloMosaic.Lib.Pointwise
public import Idealize.ShloMosaic.Lib.WordCmp
public import Idealize.ShloMosaic.Lib.BitcastConvert

@[expose] public section

noncomputable section

namespace Cert.Proof.UpRef

open Cert.UpRefIdeal Cert.UpRefIdeal.Gen Cert.UpRefIdeal.Read
open Idealize.ShloMosaic Idealize.ShloMosaic.WordCmp
open Cert.Proof.UpMath

/-- The rows of tile `t`: row `r` of it is this row of the whole. -/
abbrev row (t : Fin 287) (r : Fin 512) : Fin 146944 := ⟨512 * t.val + r.val, by omega⟩

/-- One part of a packed word, as a number. -/
theorem part_apply (x2 : Vec Ideal S146944x1024 .i32) (i : S146944x1024x2.Idx) (R : Fin 146944) (l : Fin 1024) (p : Nat)
    (h0 : (i 0).val = R.val) (h1 : (i 1).val = l.val) (h2 : (i 2).val = p) :
    FloatOps.extf (F := Ideal) .f32 bitsLt_bf16_f32 (bitcastToFloat (F := Ideal) .bf16 (Host.bitcastConvertNarrow S146944x1024x2 16 x2 splits_S146944x1024_w32_S146944x1024x2_w16) i)
      = Ideal.ofBits .bf16 ((x2 (ix2 R l)).extractLsb' (p * 16) 16) := by
  subst h2
  refine congrArg (fun z => Ideal.ofBits .bf16 ((x2 z).extractLsb' ((i 2).val * 16) 16)) ?_
  funext a
  refine Fin.ext ?_
  match a with
  | ⟨0, _⟩ => exact h0
  | ⟨1, _⟩ => exact h1

/-- The low halves. -/
theorem v4_apply (x2 : Vec Ideal S146944x1024 .i32) (t : Fin 287) (r : Fin 512) (l : Fin 1024) :
    val_main_v4 (F := Ideal) x2 (ix3 t r l) = Ideal.ofBits .bf16 ((x2 (ix2 (row t r) l)).extractLsb' 0 16) := by
  rw [val_main_v4_apply, val_main_v3_apply, val_main_v2_apply, val_main_v1_apply]
  have ht := t.isLt
  have hr := r.isLt
  have hl := l.isLt
  unfold val_main_v0
  refine (part_apply x2 _ (row t r) l 0 ?_ ?_ ?_)
  · show (((((t.val * 512 + r.val) * 1024 + l.val) / 524288 * 512 + ((t.val * 512 + r.val) * 1024 + l.val) / 1024 % 512) * 1024 + ((t.val * 512 + r.val) * 1024 + l.val) / 1 % 1024) * 2 + 0) / 2048 = 512 * t.val + r.val
    omega
  · show (((((t.val * 512 + r.val) * 1024 + l.val) / 524288 * 512 + ((t.val * 512 + r.val) * 1024 + l.val) / 1024 % 512) * 1024 + ((t.val * 512 + r.val) * 1024 + l.val) / 1 % 1024) * 2 + 0) / 2 % 1024 = l.val
    omega
  · show (((((t.val * 512 + r.val) * 1024 + l.val) / 524288 * 512 + ((t.val * 512 + r.val) * 1024 + l.val) / 1024 % 512) * 1024 + ((t.val * 512 + r.val) * 1024 + l.val) / 1 % 1024) * 2 + 0) % 2 = 0
    omega

/-- The high halves. -/
theorem v6_apply (x2 : Vec Ideal S146944x1024 .i32) (t : Fin 287) (r : Fin 512) (l : Fin 1024) :
    val_main_v6 (F := Ideal) x2 (ix3 t r l) = Ideal.ofBits .bf16 ((x2 (ix2 (row t r) l)).extractLsb' 16 16) := by
  rw [val_main_v6_apply, val_main_v5_apply, val_main_v2_apply, val_main_v1_apply]
  have ht := t.isLt
  have hr := r.isLt
  have hl := l.isLt
  unfold val_main_v0
  refine (part_apply x2 _ (row t r) l 1 ?_ ?_ ?_)
  · show (((((t.val * 512 + r.val) * 1024 + l.val) / 524288 * 512 + ((t.val * 512 + r.val) * 1024 + l.val) / 1024 % 512) * 1024 + ((t.val * 512 + r.val) * 1024 + l.val) / 1 % 1024) * 2 + (1 + 0)) / 2048 = 512 * t.val + r.val
    omega
  · show (((((t.val * 512 + r.val) * 1024 + l.val) / 524288 * 512 + ((t.val * 512 + r.val) * 1024 + l.val) / 1024 % 512) * 1024 + ((t.val * 512 + r.val) * 1024 + l.val) / 1 % 1024) * 2 + (1 + 0)) / 2 % 1024 = l.val
    omega
  · show (((((t.val * 512 + r.val) * 1024 + l.val) / 524288 * 512 + ((t.val * 512 + r.val) * 1024 + l.val) / 1024 % 512) * 1024 + ((t.val * 512 + r.val) * 1024 + l.val) / 1 % 1024) * 2 + (1 + 0)) % 2 = 1
    omega

/-- The packed rows, opened. -/
theorem cat_apply (y z : FVec Ideal S287x512x1024 .f32) (t : Fin 287) (r : Fin 512) (k : Fin 2048) :
    concatenate S287x512x2048 2 [⟨S287x512x1024, y⟩, ⟨S287x512x1024, z⟩] concatenates_S287x512x1024_S287x512x1024_S287x512x2048_d2 (ix3 t r k)
      = if h : k.val < 1024 then y (ix3 t r ⟨k.val, h⟩) else z (ix3 t r ⟨k.val - 1024, by omega⟩) := by
  pointwise

/-- Expert weights picked by a table. -/
theorem gatherW_apply (x : Vec Ideal S32x2048x4096 .f32) (idx : IVec S287x1 32) (t : Fin 287) (k : Fin 2048) (j : Fin 4096) :
    Host.gather gather_S32x2048x4096_S287x1_S287x2048x4096_12_0_n_n_0_1_120484096 x idx (ix3 t k j)
      = x (ix3 ⟨min (idx (ix2 t 0)).toInt.toNat 31, by omega⟩ k j) := by
  have a0 : GatherDims.start gather_S32x2048x4096_S287x1_S287x2048x4096_12_0_n_n_0_1_120484096 (ix3 t k j) idx 0 + GatherDims.batchCoord gather_S32x2048x4096_S287x1_S287x2048x4096_12_0_n_n_0_1_120484096 (ix3 t k j) 0
      + GatherDims.offCoord gather_S32x2048x4096_S287x1_S287x2048x4096_12_0_n_n_0_1_120484096 (ix3 t k j) 0 = min (idx (ix2 t 0)).toInt.toNat 31 := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x2048x4096_S287x1_S287x2048x4096_12_0_n_n_0_1_120484096.startIndexMap from List.mem_singleton.mpr rfl)]
    refine congrArg (fun i => min (idx i).toInt.toNat 31) ?_
    funext b
    refine Fin.ext ?_
    match b with
    | ⟨0, _⟩ => rfl
    | ⟨1, _⟩ => rfl
  have a1 : GatherDims.start gather_S32x2048x4096_S287x1_S287x2048x4096_12_0_n_n_0_1_120484096 (ix3 t k j) idx 1 + GatherDims.batchCoord gather_S32x2048x4096_S287x1_S287x2048x4096_12_0_n_n_0_1_120484096 (ix3 t k j) 1
      + GatherDims.offCoord gather_S32x2048x4096_S287x1_S287x2048x4096_12_0_n_n_0_1_120484096 (ix3 t k j) 1 = k.val := by
    rw [GatherDims.batchCoord_eq_zero _ _ _ List.not_mem_nil]
    unfold GatherDims.start
    rw [dif_neg (show ¬(1 : Fin 3) ∈ gather_S32x2048x4096_S287x1_S287x2048x4096_12_0_n_n_0_1_120484096.startIndexMap by decide), Nat.zero_add]
    rfl
  have a2 : GatherDims.start gather_S32x2048x4096_S287x1_S287x2048x4096_12_0_n_n_0_1_120484096 (ix3 t k j) idx 2 + GatherDims.batchCoord gather_S32x2048x4096_S287x1_S287x2048x4096_12_0_n_n_0_1_120484096 (ix3 t k j) 2
      + GatherDims.offCoord gather_S32x2048x4096_S287x1_S287x2048x4096_12_0_n_n_0_1_120484096 (ix3 t k j) 2 = j.val := by
    rw [GatherDims.batchCoord_eq_zero _ _ _ List.not_mem_nil]
    unfold GatherDims.start
    rw [dif_neg (show ¬(2 : Fin 3) ∈ gather_S32x2048x4096_S287x1_S287x2048x4096_12_0_n_n_0_1_120484096.startIndexMap by decide), Nat.zero_add]
    rfl
  unfold Host.gather
  congr 1
  funext a
  refine Fin.ext ?_
  match a with
  | ⟨0, _⟩ => exact a0
  | ⟨1, _⟩ => exact a1
  | ⟨2, _⟩ => exact a2

/-- Expert biases picked by a table. -/
theorem gatherB_apply (x : Vec Ideal S32x4096 .f32) (idx : IVec S287x1 32) (t : Fin 287) (j : Fin 4096) :
    Host.gather gather_S32x4096_S287x1_S287x4096_1_0_n_n_0_1_14096 x idx (ix2 t j)
      = x (ix2 ⟨min (idx (ix2 t 0)).toInt.toNat 31, by omega⟩ j) := by
  have a0 : GatherDims.start gather_S32x4096_S287x1_S287x4096_1_0_n_n_0_1_14096 (ix2 t j) idx 0 + GatherDims.batchCoord gather_S32x4096_S287x1_S287x4096_1_0_n_n_0_1_14096 (ix2 t j) 0
      + GatherDims.offCoord gather_S32x4096_S287x1_S287x4096_1_0_n_n_0_1_14096 (ix2 t j) 0 = min (idx (ix2 t 0)).toInt.toNat 31 := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x4096_S287x1_S287x4096_1_0_n_n_0_1_14096.startIndexMap from List.mem_singleton.mpr rfl)]
    refine congrArg (fun i => min (idx i).toInt.toNat 31) ?_
    funext b
    refine Fin.ext ?_
    match b with
    | ⟨0, _⟩ => rfl
    | ⟨1, _⟩ => rfl
  have a1 : GatherDims.start gather_S32x4096_S287x1_S287x4096_1_0_n_n_0_1_14096 (ix2 t j) idx 1 + GatherDims.batchCoord gather_S32x4096_S287x1_S287x4096_1_0_n_n_0_1_14096 (ix2 t j) 1
      + GatherDims.offCoord gather_S32x4096_S287x1_S287x4096_1_0_n_n_0_1_14096 (ix2 t j) 1 = j.val := by
    rw [GatherDims.batchCoord_eq_zero _ _ _ List.not_mem_nil]
    unfold GatherDims.start
    rw [dif_neg (show ¬(1 : Fin 2) ∈ gather_S32x4096_S287x1_S287x4096_1_0_n_n_0_1_14096.startIndexMap by decide), Nat.zero_add]
    rfl
  unfold Host.gather
  congr 1
  funext a
  refine Fin.ext ?_
  match a with
  | ⟨0, _⟩ => exact a0
  | ⟨1, _⟩ => exact a1

/-- A small number is not below zero, so it is kept. -/
theorem keep_nonneg (x y : BitVec 32) (h : x.toNat < 32) : Scalar.select (IntOp.cmpi .slt x 0#32) y x = x := by
  have e : IntOp.cmpi .slt x 0#32 = 0#1 := by
    rw [cmpi_slt_zero, decide_eq_false (by omega)]
    rfl
  rw [e]
  rfl

/-- The wrapped table: an expert's number stays as it is. -/
theorem v14_apply (x0 : IVec S287 32) (t : Fin 287) (h : (x0 (ix1 t)).toNat < 32) : val_main_v14 (F := Ideal) x0 (ix2 t 0) = x0 (ix1 t) := by
  rw [val_main_v14_apply, val_main_v13_apply, val_main_v10_apply, val_main_v9_apply, val_main_c_apply]
  rw [show idx_main_v14 (ix2 t 0) = ix1 t from by funext a; match a with | ⟨0, _⟩ => rfl]
  exact keep_nonneg _ _ h

/-- The same table, wrapped for the biases. -/
theorem v22_apply (x0 : IVec S287 32) (t : Fin 287) (h : (x0 (ix1 t)).toNat < 32) : val_main_v22 (F := Ideal) x0 (ix2 t 0) = x0 (ix1 t) := by
  rw [val_main_v22_apply, val_main_v21_apply, val_main_v18_apply, val_main_v17_apply, val_main_c_1_apply]
  rw [show idx_main_v22 (ix2 t 0) = ix1 t from by funext a; match a with | ⟨0, _⟩ => rfl]
  exact keep_nonneg _ _ h

/-- The opened rows of tile `t`. -/
theorem v7_apply (x2 : Vec Ideal S146944x1024 .i32) (t : Fin 287) (r : Fin 512) (k : Fin 2048) :
    val_main_v7 (F := Ideal) x2 (ix3 t r k) = half (fun l => x2 (ix2 (row t r) l)) k := by
  unfold val_main_v7
  rw [cat_apply]
  unfold half
  split
  next h => exact v4_apply x2 t r _
  next h => exact v6_apply x2 t r _

/-- A small word's number, read signed and clamped, is its number. -/
theorem clamp_small (x : BitVec 32) (h : x.toNat < 32) : min x.toInt.toNat 31 = x.toNat := by
  rw [BitVec.toInt_eq_toNat_cond]
  split <;> omega

/-- The weights of tile `t`'s expert. -/
theorem v15_apply (x0 : IVec S287 32) (x3 : Vec Ideal S1x32x2048x4096 .f32) (t : Fin 287) (h : (x0 (ix1 t)).toNat < 32) (k : Fin 2048) (j : Fin 4096) :
    val_main_v15 (F := Ideal) x0 x3 (ix3 t k j) = x3 (ix4 0 ⟨(x0 (ix1 t)).toNat, h⟩ k j) := by
  unfold val_main_v15
  rw [gatherW_apply, val_main_v8_apply]
  have hk := k.isLt
  have hj := j.isLt
  have e := clamp_small _ h
  rw [← v14_apply x0 t h] at e
  refine congrArg x3 ?_
  funext a
  refine Fin.ext ?_
  match a with
  | ⟨0, _⟩ => rfl
  | ⟨1, _⟩ =>
    show ((min (val_main_v14 (F := Ideal) x0 (ix2 t 0)).toInt.toNat 31 * 2048 + k.val) * 4096 + j.val) / 8388608 % 32 = (x0 (ix1 t)).toNat
    rw [e, v14_apply x0 t h]
    omega
  | ⟨2, _⟩ =>
    show ((min (val_main_v14 (F := Ideal) x0 (ix2 t 0)).toInt.toNat 31 * 2048 + k.val) * 4096 + j.val) / 4096 % 2048 = k.val
    omega
  | ⟨3, _⟩ =>
    show ((min (val_main_v14 (F := Ideal) x0 (ix2 t 0)).toInt.toNat 31 * 2048 + k.val) * 4096 + j.val) % 4096 = j.val
    omega

/-- The biases of tile `t`'s expert. -/
theorem v23_apply (x0 : IVec S287 32) (x4 : Vec Ideal S1x32x4096 .f32) (t : Fin 287) (h : (x0 (ix1 t)).toNat < 32) (j : Fin 4096) :
    val_main_v23 (F := Ideal) x0 x4 (ix2 t j) = x4 (ix3 0 ⟨(x0 (ix1 t)).toNat, h⟩ j) := by
  unfold val_main_v23
  rw [gatherB_apply, val_main_v16_apply]
  have hj := j.isLt
  have e := clamp_small _ h
  rw [← v22_apply x0 t h] at e
  refine congrArg x4 ?_
  funext a
  refine Fin.ext ?_
  match a with
  | ⟨0, _⟩ => rfl
  | ⟨1, _⟩ =>
    show (min (val_main_v22 (F := Ideal) x0 (ix2 t 0)).toInt.toNat 31 * 4096 + j.val) / 4096 % 32 = (x0 (ix1 t)).toNat
    rw [e, v22_apply x0 t h]
    omega
  | ⟨2, _⟩ =>
    show (min (val_main_v22 (F := Ideal) x0 (ix2 t 0)).toInt.toNat 31 * 4096 + j.val) % 4096 = j.val
    omega

/-- The products with the expert's weights, plus its biases. -/
theorem v27_apply (x0 : IVec S287 32) (x2 : Vec Ideal S146944x1024 .i32) (x3 : Vec Ideal S1x32x2048x4096 .f32) (x4 : Vec Ideal S1x32x4096 .f32)
    (t : Fin 287) (h : (x0 (ix1 t)).toNat < 32) (r : Fin 512) (j : Fin 4096) :
    val_main_v27 (F := Ideal) x0 x2 x3 x4 (ix3 t r j)
      = lin (fun l => x2 (ix2 (row t r) l)) (fun k => x3 (ix4 0 ⟨(x0 (ix1 t)).toNat, h⟩ k j)) (x4 (ix3 0 ⟨(x0 (ix1 t)).toNat, h⟩ j)) := by
  rw [val_main_v27_apply, val_main_v25_apply, val_main_v26_apply, val_main_v24_apply]
  unfold lin
  refine congrArg₂ (HAdd.hAdd (α := EReal) (β := EReal) (γ := EReal)) (Finset.sum_congr rfl fun k _ => congrArg₂ (HMul.hMul (α := EReal) (β := EReal) (γ := EReal)) ?_ ?_) ?_
  · refine Eq.trans (congrArg (val_main_v7 (F := Ideal) x2) ?_) (v7_apply x2 t r k)
    funext a
    match a with
    | ⟨0, _⟩ => rfl
    | ⟨1, _⟩ => rfl
    | ⟨2, _⟩ => rfl
  · refine Eq.trans (congrArg (val_main_v15 (F := Ideal) x0 x3) ?_) (v15_apply x0 x3 t h k j)
    funext a
    match a with
    | ⟨0, _⟩ => rfl
    | ⟨1, _⟩ => rfl
    | ⟨2, _⟩ => rfl
  · refine Eq.trans (congrArg (val_main_v23 (F := Ideal) x0 x4) ?_) (v23_apply x0 x4 t h j)
    funext a
    match a with
    | ⟨0, _⟩ => rfl
    | ⟨1, _⟩ => rfl

/-- The gated unit of a tile, at a position. -/
theorem v44_apply (x0 : IVec S287 32) (x2 : Vec Ideal S146944x1024 .i32) (x3 : Vec Ideal S1x32x2048x4096 .f32) (x4 : Vec Ideal S1x32x4096 .f32)
    (i : S287x512x2048.Idx) :
    val_main_v44 (F := Ideal) x0 x2 x3 x4 i = rAct (val_main_v28 (F := Ideal) x0 x2 x3 x4 i) (val_main_v29 (F := Ideal) x0 x2 x3 x4 i) := by
  unfold rAct
  rw [val_main_v44_apply, val_main_v35_apply, val_main_v43_apply, val_main_v34_apply, val_main_v41_apply, val_main_v42_apply, val_main_v40_apply,
    val_main_v39_apply, val_main_v38_apply, val_main_v37_apply, val_main_v36_apply, val_main_v33_apply, val_main_v32_apply, val_main_v31_apply,
    val_main_v30_apply, val_main_call0_v4_apply, val_main_call0_v3_apply, val_main_call0_v2_apply, val_main_call0_v1_apply, val_main_call0_v0_apply,
    val_main_cst_apply, val_main_cst_3_apply, val_main_cst_4_apply, val_main_cst_5_apply, val_main_cst_6_apply, val_main_cst_7_apply, val_main_cst_8_apply]
  rfl

/-- The tile's number against the number of tiles in use. -/
theorem used_iff (t : Fin 287) (x : BitVec 32) (h : x.toNat ≤ 287) : IntOp.cmpi .slt (BitVec.ofNat 32 t.val) x = if t.val < x.toNat then 1#1 else 0#1 := by
  have ht := t.isLt
  rw [cmpi_slt_eq, BitVec.toInt_eq_toNat_cond, BitVec.toInt_eq_toNat_cond, BitVec.toNat_ofNat, Nat.mod_eq_of_lt (by omega : t.val < 2 ^ 32), if_pos (by omega), if_pos (by omega)]
  by_cases hc : t.val < x.toNat
  · rw [if_pos hc, decide_eq_true (by omega)]
    rfl
  · rw [if_neg hc, decide_eq_false (by omega)]
    rfl

/-- The reference's result: in the tiles in use the gated unit of the two products with the tile's expert, elsewhere zero. -/
theorem ref_apply (x0 : IVec S287 32) (x1 : IVec S1 32) (x2 : Vec Ideal S146944x1024 .i32) (x3 : Vec Ideal S1x32x2048x4096 .f32) (x4 : Vec Ideal S1x32x4096 .f32)
    (t : Fin 287) (h : (x0 (ix1 t)).toNat < 32) (h1 : (x1 (ix1 0)).toNat ≤ 287) (r : Fin 512) (j : Fin 2048) :
    val_main_v52 (F := Ideal) x0 x1 x2 x3 x4 (ix2 (row t r) j)
      = if t.val < (x1 (ix1 0)).toNat then
          rAct (lin (fun l => x2 (ix2 (row t r) l)) (fun k => x3 (ix4 0 ⟨(x0 (ix1 t)).toNat, h⟩ k ⟨j.val, by omega⟩)) (x4 (ix3 0 ⟨(x0 (ix1 t)).toNat, h⟩ ⟨j.val, by omega⟩)))
            (lin (fun l => x2 (ix2 (row t r) l)) (fun k => x3 (ix4 0 ⟨(x0 (ix1 t)).toNat, h⟩ k ⟨2048 + j.val, by omega⟩)) (x4 (ix3 0 ⟨(x0 (ix1 t)).toNat, h⟩ ⟨2048 + j.val, by omega⟩)))
        else 0 := by
  have hr := r.isLt
  have hj := j.isLt
  have ei : idx_main_v51 (ix2 (row t r) j) = ix3 t r j := by
    funext a
    refine Fin.ext ?_
    match a with
    | ⟨0, _⟩ => show ((512 * t.val + r.val) * 2048 + j.val) / 1048576 = t.val; omega
    | ⟨1, _⟩ => show ((512 * t.val + r.val) * 2048 + j.val) / 2048 % 512 = r.val; omega
    | ⟨2, _⟩ => show ((512 * t.val + r.val) * 2048 + j.val) % 2048 = j.val; omega
  have e47 : ∀ y, val_main_v47 (F := Ideal) x1 y = x1 (ix1 0) := by
    intro y
    pointwise [val_main_v47]
  rw [val_main_v52_apply, val_main_v51_apply, ei, val_main_v50_apply, val_main_call1_v1_apply, val_main_v49_apply, val_main_v46_apply, val_main_v45_apply,
    val_main_v48_apply, e47, v44_apply, val_main_v28_apply, val_main_v29_apply, val_main_call1_v2_apply]
  have eg : idx_main_v28 (ix3 t r j) = ix3 t r ⟨j.val, by omega⟩ := by
    funext a
    match a with
    | ⟨0, _⟩ => rfl
    | ⟨1, _⟩ => rfl
    | ⟨2, _⟩ => rfl
  have eu : idx_main_v29 (ix3 t r j) = ix3 t r ⟨2048 + j.val, by omega⟩ := by
    funext a
    match a with
    | ⟨0, _⟩ => rfl
    | ⟨1, _⟩ => rfl
    | ⟨2, _⟩ => rfl
  rw [eg, eu, v27_apply x0 x2 x3 x4 t h, v27_apply x0 x2 x3 x4 t h]
  rw [show IntOp.cmpi .slt (BitVec.ofNat 32 (idx_main_v46 (idx_main_call1_v1 (ix3 t r j)) 0).val) (x1 (ix1 0)) = _ from used_iff t _ h1]
  by_cases hc : t.val < (x1 (ix1 0)).toNat
  · rw [if_pos hc, if_pos hc]
    rfl
  · rw [if_neg hc, if_neg hc]
    show val_main_call1_v0 (F := Ideal) (idx_main_call1_v2 (ix3 t r j)) = 0
    rw [val_main_call1_v0_apply, val_main_cst_9_apply]
    exact Ideal.ofBits_zero .f32

end Cert.Proof.UpRef

end
-- ==== Proof.UpRun.lean ====
/- The expert products' kernel against the reference. -/
module

public import proofs.«01_k».proof.Proof.UpVal
public import proofs.«01_k».proof.Proof.UpRef
public import proofs.«01_k».proof.Proof.UpPre
public import proofs.«01_k».proof.Defs

@[expose] public section

noncomputable section

namespace Cert.Proof.UpRun

open Cert.UpIdeal Cert.UpIdeal.Gen
open Idealize.ShloMosaic Idealize.ShloMosaic.TcCoe Idealize.SL.Sem
open Cert.Proof.Up Cert.Proof.UpMath

variable (m : (ℓ : Loc nD τ sig) → Buf (Elt Ideal) ℓ) (ρ : Dev nD → PrngReg)
variable (T0 : S287.Idx → BitVec 32) (T1 : S1.Idx → BitVec 32) (g : Good T0 T1)

/-! ## The arrays the kernel reads -/

/-- The weights, reshaped. -/
theorem one_cast (x : Vec Ideal S1x32x2048x4096 .f32) (e : Fin 32) (k : Fin 2048) (j : Fin 4096) :
    shapeCast S32x2048x4096 x shapeCasts_S1x32x2048x4096_S32x2048x4096 (ix3 e k j) = x (ix4 0 e k j) := by
  refine shapeCast_apply x shapeCasts_S1x32x2048x4096_S32x2048x4096 (ix3 e k j) (ix4 0 e k j) ?_
  rw [Shape.rowMajor_val_four, Shape.rowMajor_val_three]
  show ((0 * 32 + e.val) * 2048 + k.val) * 4096 + j.val = (e.val * 2048 + k.val) * 4096 + j.val
  omega

/-- The weights, without the leading axis. -/
theorem V_w (c : Dev nD) (e : Fin 32) (k : Fin 2048) (j : Fin 4096) :
    V m c main_v0 (ix3 e k j) = m ((c : Thread nD τ).loc main_arg3) (ix4 0 e k j) := by
  have h : V m c main_v0 = shapeCast S32x2048x4096 (m ((c : Thread nD τ).loc main_arg3)) shapeCasts_S1x32x2048x4096_S32x2048x4096 := by
    unfold V; after_results; rfl
  rw [h]
  exact one_cast _ e k j

/-- The biases, reshaped twice. -/
theorem two_casts (x : Vec Ideal S1x32x4096 .f32) (e : Fin 32) (j : Fin 4096) :
    shapeCast S32x1x4096 (shapeCast S32x4096 x shapeCasts_S1x32x4096_S32x4096) shapeCasts_S32x4096_S32x1x4096 (ix3 e 0 j) = x (ix3 0 e j) := by
  refine (shapeCast_apply _ shapeCasts_S32x4096_S32x1x4096 (ix3 e 0 j) (ix2 e j) ?_).trans (shapeCast_apply x shapeCasts_S1x32x4096_S32x4096 (ix2 e j) (ix3 0 e j) ?_)
  · rw [Shape.rowMajor_val_two, Shape.rowMajor_val_three]
    show e.val * 4096 + j.val = (e.val * 1 + 0) * 4096 + j.val
    omega
  · rw [Shape.rowMajor_val_two, Shape.rowMajor_val_three]
    show (0 * 32 + e.val) * 4096 + j.val = e.val * 4096 + j.val
    omega

/-- The gate's biases. -/
theorem V_b (c : Dev nD) (e : Fin 32) (j : Fin 4096) :
    V m c main_v2 (ix3 e 0 j) = m ((c : Thread nD τ).loc main_arg4) (ix3 0 e j) := by
  have h : V m c main_v2 = shapeCast S32x1x4096 (shapeCast S32x4096 (m ((c : Thread nD τ).loc main_arg4)) shapeCasts_S1x32x4096_S32x4096) shapeCasts_S32x4096_S32x1x4096 := by
    unfold V; after_results; rfl
  rw [h]
  exact two_casts _ e j

/-- The other factor's biases. -/
theorem V_b' (c : Dev nD) (e : Fin 32) (j : Fin 4096) :
    V m c main_v3 (ix3 e 0 j) = m ((c : Thread nD τ).loc main_arg4) (ix3 0 e j) := by
  have h : V m c main_v3 = shapeCast S32x1x4096 (shapeCast S32x4096 (m ((c : Thread nD τ).loc main_arg4)) shapeCasts_S1x32x4096_S32x4096) shapeCasts_S32x4096_S32x1x4096 := by
    unfold V; after_results; rfl
  rw [h]
  exact two_casts _ e j

/-! ## The blocks -/

/-- The tile of a point. -/
def tl (t : Fin (cfgA (F := Ideal) T0 T1 g).N) : Fin 287 := tileOf (crd T0 T1 g t)
/-- The column block of a point. -/
def cb (t : Fin (cfgA (F := Ideal) T0 T1 g).N) : Fin 4 := ⟨(crd T0 T1 g t 0).val, i0_lt _⟩
/-- The expert of a point. -/
def ex (t : Fin (cfgA (F := Ideal) T0 T1 g).N) : Fin 32 := ⟨(T0 (ix1 (tl T0 T1 g t))).toNat, g.exp _⟩

/-- A point's rows, where its tile is in use. -/
theorem blk0 (c : Dev nD) (t : Fin (cfgA (F := Ideal) T0 T1 g).N) (hu : (tl T0 T1 g t).val < (T1 (ix1 0)).toNat) (r : Fin 512) (l : Fin 1024) :
    iblk m T0 T1 g c (0 : Fin 6) t (ix2 r l) = m ((c : Thread nD τ).loc main_arg2) (ix2 (UpRef.row (tl T0 T1 g t) r) l) := by
  rw [← V_arg2 m c]
  refine congrArg (V m c main_arg2) (funext fun a => Fin.ext ?_)
  have e0 := tr0 (F := Ideal) T0 T1 (crd T0 T1 g t) g 0
  have e1 := tr0 (F := Ideal) T0 T1 (crd T0 T1 g t) g 1
  have hu' : (crd T0 T1 g t 1).val < (T1 (ix1 0)).toNat := hu
  match a with
  | ⟨0, _⟩ =>
    show cc0_transform_0 inb_S1_S1_0 numel1_S1 (pfN (F := Ideal) T0 T1) (crd T0 T1 g t) 0 * 512 + 1 * r.val = 512 * (crd T0 T1 g t 1).val + r.val
    rw [e0]
    show min (crd T0 T1 g t 1).val ((T1 (ix1 0)).toNat - 1) * 512 + 1 * r.val = _
    omega
  | ⟨1, _⟩ =>
    show cc0_transform_0 inb_S1_S1_0 numel1_S1 (pfN (F := Ideal) T0 T1) (crd T0 T1 g t) 1 * 1024 + 1 * l.val = l.val
    rw [e1]
    show 0 * 1024 + 1 * l.val = _
    omega

/-- The gate's weights of the point's expert. -/
theorem blk1 (c : Dev nD) (t : Fin (cfgA (F := Ideal) T0 T1 g).N) (k : Fin 2048) (j : Fin 512) (J : Fin 4096) (hJ : J.val = 512 * (cb T0 T1 g t).val + j.val) :
    iblk m T0 T1 g c (1 : Fin 6) t (ix3 0 k j) = m ((c : Thread nD τ).loc main_arg3) (ix4 0 (ex T0 T1 g t) k J) := by
  rw [← V_w m c]
  refine congrArg (V m c main_v0) (funext fun a => Fin.ext ?_)
  have hJ' : J.val = 512 * (crd T0 T1 g t 0).val + j.val := hJ
  match a with
  | ⟨0, _⟩ =>
    show cc0_transform_1 k0_off1_inb numel1_S1 (pfN (F := Ideal) T0 T1) (crd T0 T1 g t) 0 * 1 + 1 * 0 = (T0 (ix1 (tl T0 T1 g t))).toNat
    rw [tr1]
    show (T0 (ix1 (tl T0 T1 g t))).toNat * 1 + 1 * 0 = _
    omega
  | ⟨1, _⟩ =>
    show cc0_transform_1 k0_off1_inb numel1_S1 (pfN (F := Ideal) T0 T1) (crd T0 T1 g t) 1 * 2048 + 1 * k.val = k.val
    rw [tr1]
    show 0 * 2048 + 1 * k.val = _
    omega
  | ⟨2, _⟩ =>
    show cc0_transform_1 k0_off1_inb numel1_S1 (pfN (F := Ideal) T0 T1) (crd T0 T1 g t) 2 * 512 + 1 * j.val = J.val
    rw [tr1]
    show ((crd T0 T1 g t 0).val) * 512 + 1 * j.val = _
    omega

/-- The other factor's weights of the point's expert. -/
theorem blk2 (c : Dev nD) (t : Fin (cfgA (F := Ideal) T0 T1 g).N) (k : Fin 2048) (j : Fin 512) (J : Fin 4096) (hJ : J.val = 2048 + 512 * (cb T0 T1 g t).val + j.val) :
    iblk m T0 T1 g c (2 : Fin 6) t (ix3 0 k j) = m ((c : Thread nD τ).loc main_arg3) (ix4 0 (ex T0 T1 g t) k J) := by
  rw [← V_w m c]
  refine congrArg (V m c main_v0) (funext fun a => Fin.ext ?_)
  have hJ' : J.val = 2048 + 512 * (crd T0 T1 g t 0).val + j.val := hJ
  match a with
  | ⟨0, _⟩ =>
    show cc0_transform_2 k0_off1_inb numel1_S1 (pfN (F := Ideal) T0 T1) (crd T0 T1 g t) 0 * 1 + 1 * 0 = (T0 (ix1 (tl T0 T1 g t))).toNat
    rw [tr2]
    show (T0 (ix1 (tl T0 T1 g t))).toNat * 1 + 1 * 0 = _
    omega
  | ⟨1, _⟩ =>
    show cc0_transform_2 k0_off1_inb numel1_S1 (pfN (F := Ideal) T0 T1) (crd T0 T1 g t) 1 * 2048 + 1 * k.val = k.val
    rw [tr2]
    show 0 * 2048 + 1 * k.val = _
    omega
  | ⟨2, _⟩ =>
    show cc0_transform_2 k0_off1_inb numel1_S1 (pfN (F := Ideal) T0 T1) (crd T0 T1 g t) 2 * 512 + 1 * j.val = J.val
    rw [tr2]
    show (4 + (crd T0 T1 g t 0).val) * 512 + 1 * j.val = _
    omega

/-- The gate's biases of the point's expert. -/
theorem blk3 (c : Dev nD) (t : Fin (cfgA (F := Ideal) T0 T1 g).N) (j : Fin 512) (J : Fin 4096) (hJ : J.val = 512 * (cb T0 T1 g t).val + j.val) :
    iblk m T0 T1 g c (3 : Fin 6) t (ix3 0 0 j) = m ((c : Thread nD τ).loc main_arg4) (ix3 0 (ex T0 T1 g t) J) := by
  rw [← V_b m c]
  refine congrArg (V m c main_v2) (funext fun a => Fin.ext ?_)
  have hJ' : J.val = 512 * (crd T0 T1 g t 0).val + j.val := hJ
  match a with
  | ⟨0, _⟩ =>
    show cc0_transform_3 k0_off1_inb numel1_S1 (pfN (F := Ideal) T0 T1) (crd T0 T1 g t) 0 * 1 + 1 * 0 = (T0 (ix1 (tl T0 T1 g t))).toNat
    rw [tr3]
    show (T0 (ix1 (tl T0 T1 g t))).toNat * 1 + 1 * 0 = _
    omega
  | ⟨1, _⟩ =>
    show cc0_transform_3 k0_off1_inb numel1_S1 (pfN (F := Ideal) T0 T1) (crd T0 T1 g t) 1 * 1 + 1 * 0 = 0
    rw [tr3]
    show 0 * 1 + 1 * 0 = _
    omega
  | ⟨2, _⟩ =>
    show cc0_transform_3 k0_off1_inb numel1_S1 (pfN (F := Ideal) T0 T1) (crd T0 T1 g t) 2 * 512 + 1 * j.val = J.val
    rw [tr3]
    show ((crd T0 T1 g t 0).val) * 512 + 1 * j.val = _
    omega

/-- The other factor's biases of the point's expert. -/
theorem blk4 (c : Dev nD) (t : Fin (cfgA (F := Ideal) T0 T1 g).N) (j : Fin 512) (J : Fin 4096) (hJ : J.val = 2048 + 512 * (cb T0 T1 g t).val + j.val) :
    iblk m T0 T1 g c (4 : Fin 6) t (ix3 0 0 j) = m ((c : Thread nD τ).loc main_arg4) (ix3 0 (ex T0 T1 g t) J) := by
  rw [← V_b' m c]
  refine congrArg (V m c main_v3) (funext fun a => Fin.ext ?_)
  have hJ' : J.val = 2048 + 512 * (crd T0 T1 g t 0).val + j.val := hJ
  match a with
  | ⟨0, _⟩ =>
    show cc0_transform_4 k0_off1_inb numel1_S1 (pfN (F := Ideal) T0 T1) (crd T0 T1 g t) 0 * 1 + 1 * 0 = (T0 (ix1 (tl T0 T1 g t))).toNat
    rw [tr4]
    show (T0 (ix1 (tl T0 T1 g t))).toNat * 1 + 1 * 0 = _
    omega
  | ⟨1, _⟩ =>
    show cc0_transform_4 k0_off1_inb numel1_S1 (pfN (F := Ideal) T0 T1) (crd T0 T1 g t) 1 * 1 + 1 * 0 = 0
    rw [tr4]
    show 0 * 1 + 1 * 0 = _
    omega
  | ⟨2, _⟩ =>
    show cc0_transform_4 k0_off1_inb numel1_S1 (pfN (F := Ideal) T0 T1) (crd T0 T1 g t) 2 * 512 + 1 * j.val = J.val
    rw [tr4]
    show (4 + (crd T0 T1 g t 0).val) * 512 + 1 * j.val = _
    omega

/-! ## The write-backs -/

/-- Every point writes its block back. -/
theorem flush5 (t : Fin (cfgA (F := Ideal) T0 T1 g).N) : ((cfgA (F := Ideal) T0 T1 g).win (5 : Fin 6)).flush t = true := by
  show (true && (decide (t.val + 1 = grid0.N) || decide _)) = true
  rw [Bool.true_and, Bool.or_eq_true, decide_eq_true_iff, decide_eq_true_iff]
  by_cases h : t.val + 1 = grid0.N
  · exact .inl h
  · have h' : t.val + 1 < grid0.N := by have := t.isLt; have h2 : t.val < grid0.N := t.isLt; omega
    refine .inr ⟨h', fun e => ?_⟩
    have e' : cc0_transform_5 (grid0.coords ⟨t.val + 1, h'⟩) 0 = cc0_transform_5 (grid0.coords t) 0 := congrFun e 0
    rw [tr5, tr5] at e'
    have e'' : (grid0.coords ⟨t.val + 1, h'⟩ 1).val = (grid0.coords t 1).val := e'
    rw [(coords_eq _).2, (coords_eq _).2] at e''
    have : (t.val + 1) % 287 = t.val % 287 := e''
    omega

/-- What a point writes back, at a position of its block. -/
theorem out_apply (c : Dev nD) (t : Fin (cfgA (F := Ideal) T0 T1 g).N) (r j : Fin 512) (J : Fin 2048) (hJ : J.val = 512 * (cb T0 T1 g t).val + j.val) :
    outAt (crd T0 T1 g t) (blks m T0 T1 g c t) T1 (ix2 r j)
      = UpRefIdeal.Read.val_main_v52 (F := Ideal) T0 T1 (m ((c : Thread nD τ).loc main_arg2)) (m ((c : Thread nD τ).loc main_arg3)) (m ((c : Thread nD τ).loc main_arg4))
          (ix2 (UpRef.row (tl T0 T1 g t) r) J) := by
  refine Eq.trans ?_ (UpRef.ref_apply T0 T1 _ _ _ (tl T0 T1 g t) (g.exp _) g.hi r J).symm
  have hc := cond2_iff (F := Ideal) T0 T1 (crd T0 T1 g t) g
  unfold outAt
  by_cases hu : (tl T0 T1 g t).val < (T1 (ix1 0)).toNat
  · rw [if_pos (hc.mpr hu), if_pos hu, ← act_eq, UpVal.tile_apply]
    simp only [UpVal.pay1_apply, UpVal.pay2_apply]
    dsimp only [blks]
    have h0 := funext fun l => blk0 m T0 T1 g c t hu r l
    have h1 := funext fun k => blk1 m T0 T1 g c t k j ⟨J.val, by omega⟩ hJ
    have h2 := funext fun k => blk2 m T0 T1 g c t k j ⟨2048 + J.val, by omega⟩ (by show 2048 + J.val = _; omega)
    have h3 := blk3 m T0 T1 g c t j ⟨J.val, by omega⟩ hJ
    have h4 := blk4 m T0 T1 g c t j ⟨2048 + J.val, by omega⟩ (by show 2048 + J.val = _; omega)
    exact congrArg₂ kAct (congr (congrArg₂ lin h0 h1) h3) (congr (congrArg₂ lin h0 h2) h4)
  · rw [if_neg (fun h => hu (hc.mp h)), if_neg hu]
    exact UpVal.pay4_apply _

/-- The output array: the reference's value of the arguments. -/
def A5 (c : Dev nD) : Vec Ideal S146944x2048 .bf16 :=
  UpRefIdeal.Read.val_main_v52 (F := Ideal) T0 T1 (m ((c : Thread nD τ).loc main_arg2)) (m ((c : Thread nD τ).loc main_arg3)) (m ((c : Thread nD τ).loc main_arg4))

/-- Where a position of a point's block lies in the array. -/
theorem emb5 (t : Fin (cfgA (F := Ideal) T0 T1 g).N) (r j : Fin 512) (J : Fin 2048) (hJ : J.val = 512 * (cb T0 T1 g t).val + j.val) :
    (((cfgA (F := Ideal) T0 T1 g).win (5 : Fin 6)).blk t).view.emb (ix2 r j : S512x512.Idx) = (ix2 (UpRef.row (tl T0 T1 g t) r) J : S146944x2048.Idx) := by
  have hJ' : J.val = 512 * (crd T0 T1 g t 0).val + j.val := hJ
  funext a
  refine Fin.ext ?_
  match a with
  | ⟨0, _⟩ =>
    show cc0_transform_5 (crd T0 T1 g t) 0 * 512 + 1 * r.val = 512 * (crd T0 T1 g t 1).val + r.val
    rw [tr5]
    show (crd T0 T1 g t 1).val * 512 + 1 * r.val = _
    omega
  | ⟨1, _⟩ =>
    show cc0_transform_5 (crd T0 T1 g t) 1 * 512 + 1 * j.val = J.val
    rw [tr5]
    show (crd T0 T1 g t 0).val * 512 + 1 * j.val = _
    omega

/-- What a point writes back is its block of the output array. -/
theorem flushed5 (c : Dev nD) (t : Fin (cfgA (F := Ideal) T0 T1 g).N) :
    (dats m T0 T1 g 0 c).flushed (5 : Fin 6) t = (((cfgA (F := Ideal) T0 T1 g).win (5 : Fin 6)).blk t).view.read (Elt Ideal) (A5 m T0 T1 c) := by
  funext y
  obtain ⟨r, j, rfl⟩ : ∃ r j : Fin 512, y = (ix2 r j : S512x512.Idx) := ⟨y 0, y 1, funext fun a => match a with | ⟨0, _⟩ => rfl | ⟨1, _⟩ => rfl⟩
  have hj := j.isLt
  have hb := (cb T0 T1 g t).isLt
  have h := out_apply m T0 T1 g c t r j ⟨512 * (cb T0 T1 g t).val + j.val, by omega⟩ rfl
  rw [← after5 m T0 T1 g c t] at h
  refine Eq.trans h ?_
  exact congrArg (A5 m T0 T1 c) (emb5 T0 T1 g t r j ⟨512 * (cb T0 T1 g t).val + j.val, by omega⟩ rfl).symm

/-- Every position of the output lies in some point's block. -/
theorem covered5 (i : S146944x2048.Idx) :
    ∃ t : Fin (cfgA (F := Ideal) T0 T1 g).N, ((cfgA (F := Ideal) T0 T1 g).win (5 : Fin 6)).flush t = true
      ∧ i ∈ (((cfgA (F := Ideal) T0 T1 g).win (5 : Fin 6)).blk t).view.set := by
  have h0 : (i 0).val < 146944 := (i 0).isLt
  have h1 : (i 1).val < 2048 := (i 1).isLt
  obtain ⟨t, ht⟩ : ∃ t : Fin (cfgA (F := Ideal) T0 T1 g).N, t.val = 287 * ((i 1).val / 512) + (i 0).val / 512 :=
    ⟨⟨287 * ((i 1).val / 512) + (i 0).val / 512, lt_of_lt_of_eq (by omega) N_0.symm⟩, rfl⟩
  obtain ⟨e0, e1⟩ := coords_eq t
  have hc : (cb T0 T1 g t).val = (i 1).val / 512 := e0.trans (by omega)
  have hl : (tl T0 T1 g t).val = (i 0).val / 512 := e1.trans (by omega)
  have h := (((cfgA (F := Ideal) T0 T1 g).win (5 : Fin 6)).blk t).view.emb_mem_set (ix2 ⟨(i 0).val % 512, by omega⟩ ⟨(i 1).val % 512, by omega⟩ : S512x512.Idx)
  rw [emb5 T0 T1 g t ⟨(i 0).val % 512, by omega⟩ ⟨(i 1).val % 512, by omega⟩ ⟨(i 1).val, h1⟩ (by show (i 1).val = 512 * (cb T0 T1 g t).val + (i 1).val % 512; rw [hc]; omega)] at h
  refine ⟨t, flush5 T0 T1 g t, ?_⟩
  have e : (ix2 (UpRef.row (tl T0 T1 g t) ⟨(i 0).val % 512, by omega⟩) ⟨(i 1).val, h1⟩ : S146944x2048.Idx) = i := by
    funext a
    refine Fin.ext ?_
    match a with
    | ⟨0, _⟩ => show 512 * (tl T0 T1 g t).val + (i 0).val % 512 = (i 0).val; rw [hl]; omega
    | ⟨1, _⟩ => rfl
  rw [e] at h
  exact h

/-- The output array after the run. -/
theorem final5 (c : Dev nD) : (dats m T0 T1 g 0 c).arrAt (5 : Fin 6) (cfgA (F := Ideal) T0 T1 g).N = A5 m T0 T1 c :=
  (dats m T0 T1 g 0 c).arrAt_eq_of_cover (5 : Fin 6) (A5 m T0 T1 c) (fun t _ => flushed5 m T0 T1 g c t) (covered5 T0 T1 g)

/-! ## The claims -/

/-- The tables of the first core are the tables of each core. -/
theorem pinned : Pinned m (m (((0 : Dev nD) : Thread nD τ).loc main_arg0)) (m (((0 : Dev nD) : Thread nD τ).loc main_arg1)) := by
  intro c
  obtain rfl : c = 0 := Subsingleton.elim _ _
  exact ⟨rfl, rfl⟩

/-- The kernel's frame at the extended reals. -/
theorem frameIdeal : Cert.quiescent_UpIdeal (hUpIdeal := Cert.UpIdeal.Gen.facts) (hPre_tables_up := Cert.Pre_tables_up.Gen.facts) :=
  fun m ρ h => Up.frame_at m ρ _ _ (good_of_pre _ _ _ _ _ (h 0)) (pinned m)

/-- The kernel and the reference end with equal results, for tables in range. -/
theorem algebraic : Cert.algebraic_UpIdeal_UpRefIdeal (hUpIdeal := Cert.UpIdeal.Gen.facts) (hUpRefIdeal := Cert.UpRefIdeal.Gen.facts) (hPre_tables_up := Cert.Pre_tables_up.Gen.facts) := by
  intro m ρ m' ρ' hpre hagree
  have g := good_of_pre _ _ _ _ _ (hpre 0)
  refine ⟨fun c => A5 m (m (((0 : Dev nD) : Thread nD τ).loc main_arg0)) (m (((0 : Dev nD) : Thread nD τ).loc main_arg1)) c, ?_, ?_⟩
  · exact (θ_run _ _ _).mono (fun r h c => ⟨((h.1 c).1 (5 : Fin 6)).trans (final5 m _ _ g c), args_kept m _ _ g r h.1 c⟩) (run m ρ _ _ g (pinned m))
  · refine (θ_run _ _ _).mono (fun r h c => ⟨(h c).1.trans ?_, (h c).2⟩) (UpRefIdeal.Value.run m' ρ')
    obtain rfl : c = 0 := Subsingleton.elim _ _
    obtain ⟨h0, h1, h2, h3, h4⟩ := hagree 0
    rw [UpRefIdeal.Read.val_main_v52_eq, h0, h1, h2, h3, h4]
    rfl

end Cert.Proof.UpRun

end
-- ==== Proof.lean ====
module

public import proofs.«01_k».proof.Defs
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Att
public import proofs.«01_k».proof.Proof.Gen.Att.Skeleton
public import proofs.«01_k».proof.Proof.Gen.Att.Loops
public import proofs.«01_k».proof.Proof.Gen.Att.Launch
public import proofs.«01_k».proof.Proof.Gen.Att.Points
public import proofs.«01_k».proof.Proof.Gen.Att.Frame
public import proofs.«01_k».proof.Proof.Gen.AttIdeal
public import proofs.«01_k».proof.Proof.Gen.AttIdeal.Skeleton
public import proofs.«01_k».proof.Proof.Gen.AttIdeal.Loops
public import proofs.«01_k».proof.Proof.Gen.AttIdeal.Launch
public import proofs.«01_k».proof.Proof.Gen.AttIdeal.Points
public import proofs.«01_k».proof.Proof.Gen.AttIdeal.Frame
public import proofs.«01_k».proof.Proof.Gen.AttRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.AttIdeal.Value
public import proofs.«01_k».proof.Proof.Gen.AttRefIdeal.Run
public import proofs.«01_k».proof.Proof.Gen.AttRefIdeal.Read
public import proofs.«01_k».proof.Proof.ProjRun
public import proofs.«01_k».proof.Proof.AttRun
public import proofs.«01_k».proof.Proof.Gen.UpRefIdeal.Run
public import proofs.«01_k».proof.Proof.Gen.UpRefIdeal.Read
public import proofs.«01_k».proof.Proof.UpBitsRun
public import proofs.«01_k».proof.Proof.UpRun
public import Idealize.ShloMosaic.Adequacy
public import Idealize.ShloMosaic.Init

@[expose] public section

noncomputable section

namespace Cert.Proof

open Idealize.ShloMosaic Idealize.SL.Sem Cert.Proj

/-- The attention reference's run, from any memory. -/
theorem attRef_frame : Cert.quiescent_AttRefIdeal (hAttRefIdeal := Cert.AttRefIdeal.Gen.facts) :=
  fun m ρ _ => (θ_run _ _ _).mono (fun r h => ⟨fun c => (h c).2, sem_eq_zero_of_no_sems rfl r.2⟩) (Cert.AttRefIdeal.Value.run m ρ)

/-- The expert products' reference's run, from any memory. -/
theorem upRef_frame : Cert.quiescent_UpRefIdeal (hUpRefIdeal := Cert.UpRefIdeal.Gen.facts) :=
  fun m ρ _ => (θ_run _ _ _).mono (fun r h => ⟨fun c => (h c).2, sem_eq_zero_of_no_sems rfl r.2⟩) (Cert.UpRefIdeal.Value.run m ρ)

/-- Every claim of the certificate. -/
theorem claim : Cert.Claim := ⟨Cert.Proj.Gen.facts, Cert.ProjIdeal.Gen.facts, Cert.ProjRefIdeal.Gen.facts, Cert.Att.Gen.facts, Cert.AttIdeal.Gen.facts, Cert.AttRefIdeal.Gen.facts, Cert.Up.Gen.facts, Cert.UpIdeal.Gen.facts, Cert.UpRefIdeal.Gen.facts, Cert.Proof.AttRun.preFacts, Cert.Pre_tables_up.Gen.facts,
  fun m ρ _ => Cert.Proj.Gen.frame m ρ, fun m ρ _ => Cert.ProjIdeal.Gen.frame m ρ, fun m ρ _ => (θ_run _ _ _).mono (fun r h => ⟨fun c => (h c).2.2, sem_eq_zero_of_no_sems rfl r.2⟩) (Cert.ProjRefIdeal.Value.run m ρ),
  fun m ρ _ => Cert.Att.Gen.frame m ρ, fun m ρ _ => Cert.AttIdeal.Gen.frame m ρ, fun m ρ _ => Cert.AttIdeal.Gen.frame m ρ, attRef_frame, fun m ρ _ => attRef_frame m ρ trivial,
  Cert.Proof.UpBits.frame, Cert.Proof.UpRun.frameIdeal, upRef_frame, fun m ρ _ => upRef_frame m ρ trivial,
  trivial, Cert.Proof.ProjRun.algebraic, IdealRules.named_const.statement Cert.AttIdeal.κ "neg" .f32 0xF149F2CA#32 ⊥ rfl, Cert.Proof.AttRun.algebraic,
  trivial, Cert.Proof.UpRun.algebraic⟩

end Cert.Proof

end
